-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 4096]⟩ (Layout.meshBlock [2, 2] ![[0], [], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x2048 : Shape := ⟨3, ![1, 4096, 2048]⟩
abbrev S4096x4096 : Shape := ⟨2, ![4096, 4096]⟩
abbrev S4096x2048 : Shape := ⟨2, ![4096, 2048]⟩
abbrev S2x256x2048 : Shape := ⟨3, ![2, 256, 2048]⟩
abbrev S2 : Shape := ⟨1, ![2]⟩
abbrev S16 : Shape := ⟨1, ![16]⟩
abbrev S_ : Shape := ⟨0, ![]⟩
abbrev S1 : Shape := ⟨1, ![1]⟩
abbrev S256x2048 : Shape := ⟨2, ![256, 2048]⟩
abbrev S1x256x2048 : Shape := ⟨3, ![1, 256, 2048]⟩

abbrev nBuf : Space → Nat
  | .hbm => 2
  | .vmem => 3
  | .smem => 0
  | _ => 0

abbrev bufTy : (tb : Table) → Fin (tcTables nBuf tb) → BufTy
  | .hbm, ⟨0, _⟩ => ⟨S1x4096x2048, .f32⟩
  | .hbm, ⟨1, _⟩ => ⟨S4096x4096, .f32⟩
  | .local _ .vmem, ⟨0, _⟩ => ⟨S4096x2048, .f32⟩
  | .local _ .vmem, ⟨1, _⟩ => ⟨S2x256x2048, .f32⟩
  | .local _ .vmem, ⟨2, _⟩ => ⟨S2x256x2048, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_2 v2
  let c2_i32_4 : BitVec 32 := 2#32
  let v9 : BitVec 32 := Scalar.muli v8 c2_i32_4
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v11 : BitVec 32 := Scalar.muli v5 c1_i32_5
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v14 : BitVec 32 := Scalar.muli v2 c2_i32_8
  let v15 : BitVec 32 := Scalar.addi c0_i32_9 v14
  let c1_i32_6 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v13 : BitVec 32 := Scalar.subi c1_i32_6 v5
  let c1_i32_10 : BitVec 32 := 1#32
  let v16 : BitVec 32 := Scalar.muli v13 c1_i32_10
  let v17 : BitVec 32 := Scalar.addi v15 v16
  v17.toNat
def k0_dev3 (d0 : Dev nD) : Nat :=
  let c0_i32_17 : BitVec 32 := 0#32
  let c1_i32_12 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v18 : BitVec 32 := Scalar.subi c1_i32_12 v2
  let c2_i32_16 : BitVec 32 := 2#32
  let v19 : BitVec 32 := Scalar.muli v18 c2_i32_16
  let v20 : BitVec 32 := Scalar.addi c0_i32_17 v19
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_18 : BitVec 32 := 1#32
  let v21 : BitVec 32 := Scalar.muli v5 c1_i32_18
  let v22 : BitVec 32 := Scalar.addi v20 v21
  v22.toNat
def k0_dev4 (d0 : Dev nD) : Nat :=
  let c0_i32_28 : BitVec 32 := 0#32
  let c1_i32_23 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v30 : BitVec 32 := Scalar.subi c1_i32_23 v2
  let c2_i32_27 : BitVec 32 := 2#32
  let v31 : BitVec 32 := Scalar.muli v30 c2_i32_27
  let v32 : BitVec 32 := Scalar.addi c0_i32_28 v31
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_29 : BitVec 32 := 1#32
  let v33 : BitVec 32 := Scalar.muli v5 c1_i32_29
  let v34 : BitVec 32 := Scalar.addi v32 v33
  v34.toNat
def k0_dev5 (d0 : Dev nD) : Nat :=
  let c0_i32_38 : BitVec 32 := 0#32
  let c1_i32_33 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v42 : BitVec 32 := Scalar.subi c1_i32_33 v2
  let c2_i32_37 : BitVec 32 := 2#32
  let v43 : BitVec 32 := Scalar.muli v42 c2_i32_37
  let v44 : BitVec 32 := Scalar.addi c0_i32_38 v43
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_39 : BitVec 32 := 1#32
  let v45 : BitVec 32 := Scalar.muli v5 c1_i32_39
  let v46 : BitVec 32 := Scalar.addi v44 v45
  v46.toNat
def k0_dev6 (d0 : Dev nD) : Nat :=
  let c0_i32_47 : BitVec 32 := 0#32
  let c1_i32_43 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v54 : BitVec 32 := Scalar.subi c1_i32_43 v2
  let c2_i32_46 : BitVec 32 := 2#32
  let v55 : BitVec 32 := Scalar.muli v54 c2_i32_46
  let v56 : BitVec 32 := Scalar.addi c0_i32_47 v55
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_48 : BitVec 32 := 1#32
  let v57 : BitVec 32 := Scalar.muli v5 c1_i32_48
  let v58 : BitVec 32 := Scalar.addi v56 v57
  v58.toNat
def k0_dev7 (d0 : Dev nD) : Nat :=
  let c0_i32_56 : BitVec 32 := 0#32
  let c1_i32_52 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v66 : BitVec 32 := Scalar.subi c1_i32_52 v2
  let c2_i32_55 : BitVec 32 := 2#32
  let v67 : BitVec 32 := Scalar.muli v66 c2_i32_55
  let v68 : BitVec 32 := Scalar.addi c0_i32_56 v67
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_57 : BitVec 32 := 1#32
  let v69 : BitVec 32 := Scalar.muli v5 c1_i32_57
  let v70 : BitVec 32 := Scalar.addi v68 v69
  v70.toNat
def k0_dev8 (d0 : Dev nD) : Nat :=
  let c0_i32_65 : BitVec 32 := 0#32
  let c1_i32_61 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v78 : BitVec 32 := Scalar.subi c1_i32_61 v2
  let c2_i32_64 : BitVec 32 := 2#32
  let v79 : BitVec 32 := Scalar.muli v78 c2_i32_64
  let v80 : BitVec 32 := Scalar.addi c0_i32_65 v79
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_66 : BitVec 32 := 1#32
  let v81 : BitVec 32 := Scalar.muli v5 c1_i32_66
  let v82 : BitVec 32 := Scalar.addi v80 v81
  v82.toNat
def k0_dev9 (d0 : Dev nD) : Nat :=
  let c0_i32_74 : BitVec 32 := 0#32
  let c1_i32_70 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v90 : BitVec 32 := Scalar.subi c1_i32_70 v2
  let c2_i32_73 : BitVec 32 := 2#32
  let v91 : BitVec 32 := Scalar.muli v90 c2_i32_73
  let v92 : BitVec 32 := Scalar.addi c0_i32_74 v91
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_75 : BitVec 32 := 1#32
  let v93 : BitVec 32 := Scalar.muli v5 c1_i32_75
  let v94 : BitVec 32 := Scalar.addi v92 v93
  v94.toNat
def k0_dev10 (d0 : Dev nD) : Nat :=
  let c0_i32_83 : BitVec 32 := 0#32
  let c1_i32_79 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v102 : BitVec 32 := Scalar.subi c1_i32_79 v2
  let c2_i32_82 : BitVec 32 := 2#32
  let v103 : BitVec 32 := Scalar.muli v102 c2_i32_82
  let v104 : BitVec 32 := Scalar.addi c0_i32_83 v103
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_84 : BitVec 32 := 1#32
  let v105 : BitVec 32 := Scalar.muli v5 c1_i32_84
  let v106 : BitVec 32 := Scalar.addi v104 v105
  v106.toNat
def k0_dev11 (d0 : Dev nD) : Nat :=
  let c0_i32_92 : BitVec 32 := 0#32
  let c1_i32_88 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v114 : BitVec 32 := Scalar.subi c1_i32_88 v2
  let c2_i32_91 : BitVec 32 := 2#32
  let v115 : BitVec 32 := Scalar.muli v114 c2_i32_91
  let v116 : BitVec 32 := Scalar.addi c0_i32_92 v115
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_93 : BitVec 32 := 1#32
  let v117 : BitVec 32 := Scalar.muli v5 c1_i32_93
  let v118 : BitVec 32 := Scalar.addi v116 v117
  v118.toNat
def k0_dev12 (d0 : Dev nD) : Nat :=
  let c0_i32_102 : BitVec 32 := 0#32
  let c1_i32_98 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v126 : BitVec 32 := Scalar.subi c1_i32_98 v2
  let c2_i32_101 : BitVec 32 := 2#32
  let v127 : BitVec 32 := Scalar.muli v126 c2_i32_101
  let v128 : BitVec 32 := Scalar.addi c0_i32_102 v127
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_103 : BitVec 32 := 1#32
  let v129 : BitVec 32 := Scalar.muli v5 c1_i32_103
  let v130 : BitVec 32 := Scalar.addi v128 v129
  v130.toNat
def k0_dev13 (d0 : Dev nD) : Nat :=
  let c0_i32_111 : BitVec 32 := 0#32
  let c1_i32_107 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v138 : BitVec 32 := Scalar.subi c1_i32_107 v2
  let c2_i32_110 : BitVec 32 := 2#32
  let v139 : BitVec 32 := Scalar.muli v138 c2_i32_110
  let v140 : BitVec 32 := Scalar.addi c0_i32_111 v139
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_112 : BitVec 32 := 1#32
  let v141 : BitVec 32 := Scalar.muli v5 c1_i32_112
  let v142 : BitVec 32 := Scalar.addi v140 v141
  v142.toNat
def k0_dev14 (d0 : Dev nD) : Nat :=
  let c0_i32_120 : BitVec 32 := 0#32
  let c1_i32_116 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v150 : BitVec 32 := Scalar.subi c1_i32_116 v2
  let c2_i32_119 : BitVec 32 := 2#32
  let v151 : BitVec 32 := Scalar.muli v150 c2_i32_119
  let v152 : BitVec 32 := Scalar.addi c0_i32_120 v151
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_121 : BitVec 32 := 1#32
  let v153 : BitVec 32 := Scalar.muli v5 c1_i32_121
  let v154 : BitVec 32 := Scalar.addi v152 v153
  v154.toNat
def k0_dev15 (d0 : Dev nD) : Nat :=
  let c0_i32_129 : BitVec 32 := 0#32
  let c1_i32_125 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v162 : BitVec 32 := Scalar.subi c1_i32_125 v2
  let c2_i32_128 : BitVec 32 := 2#32
  let v163 : BitVec 32 := Scalar.muli v162 c2_i32_128
  let v164 : BitVec 32 := Scalar.addi c0_i32_129 v163
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_130 : BitVec 32 := 1#32
  let v165 : BitVec 32 := Scalar.muli v5 c1_i32_130
  let v166 : BitVec 32 := Scalar.addi v164 v165
  v166.toNat
def k0_dev16 (d0 : Dev nD) : Nat :=
  let c0_i32_138 : BitVec 32 := 0#32
  let c1_i32_134 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v174 : BitVec 32 := Scalar.subi c1_i32_134 v2
  let c2_i32_137 : BitVec 32 := 2#32
  let v175 : BitVec 32 := Scalar.muli v174 c2_i32_137
  let v176 : BitVec 32 := Scalar.addi c0_i32_138 v175
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_139 : BitVec 32 := 1#32
  let v177 : BitVec 32 := Scalar.muli v5 c1_i32_139
  let v178 : BitVec 32 := Scalar.addi v176 v177
  v178.toNat
def k0_dev17 (d0 : Dev nD) : Nat :=
  let c0_i32_147 : BitVec 32 := 0#32
  let c1_i32_143 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v186 : BitVec 32 := Scalar.subi c1_i32_143 v2
  let c2_i32_146 : BitVec 32 := 2#32
  let v187 : BitVec 32 := Scalar.muli v186 c2_i32_146
  let v188 : BitVec 32 := Scalar.addi c0_i32_147 v187
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_148 : BitVec 32 := 1#32
  let v189 : BitVec 32 := Scalar.muli v5 c1_i32_148
  let v190 : BitVec 32 := Scalar.addi v188 v189
  v190.toNat
def k0_dev18 (d0 : Dev nD) : Nat :=
  let c0_i32_156 : BitVec 32 := 0#32
  let c1_i32_152 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v198 : BitVec 32 := Scalar.subi c1_i32_152 v2
  let c2_i32_155 : BitVec 32 := 2#32
  let v199 : BitVec 32 := Scalar.muli v198 c2_i32_155
  let v200 : BitVec 32 := Scalar.addi c0_i32_156 v199
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_157 : BitVec 32 := 1#32
  let v201 : BitVec 32 := Scalar.muli v5 c1_i32_157
  let v202 : BitVec 32 := Scalar.addi v200 v201
  v202.toNat
def k0_off1 (d0 : Dev nD) : Fin 2 → Nat :=
  let c0_i32_201 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  ![0, v6.toNat]
def k0_dev19 (d0 : Dev nD) : Nat :=
  let c0_i32_209 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_208 : BitVec 32 := 2#32
  let v250 : BitVec 32 := Scalar.muli v2 c2_i32_208
  let v251 : BitVec 32 := Scalar.addi c0_i32_209 v250
  let c1_i32_204 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v249 : BitVec 32 := Scalar.subi c1_i32_204 v5
  let c1_i32_210 : BitVec 32 := 1#32
  let v252 : BitVec 32 := Scalar.muli v249 c1_i32_210
  let v253 : BitVec 32 := Scalar.addi v251 v252
  v253.toNat
def k0_off2 (d0 : Dev nD) : Fin 2 → Nat :=
  let c256_i32_246 : BitVec 32 := 256#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  ![256, v6.toNat]
def k0_dev20 (d0 : Dev nD) : Nat :=
  let c0_i32_254 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_253 : BitVec 32 := 2#32
  let v295 : BitVec 32 := Scalar.muli v2 c2_i32_253
  let v296 : BitVec 32 := Scalar.addi c0_i32_254 v295
  let c1_i32_249 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v294 : BitVec 32 := Scalar.subi c1_i32_249 v5
  let c1_i32_255 : BitVec 32 := 1#32
  let v297 : BitVec 32 := Scalar.muli v294 c1_i32_255
  let v298 : BitVec 32 := Scalar.addi v296 v297
  v298.toNat
def k0_off3 (d0 : Dev nD) : Fin 2 → Nat :=
  let c512_i32_304 : BitVec 32 := 512#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  ![512, v6.toNat]
def k0_dev21 (d0 : Dev nD) : Nat :=
  let c0_i32_312 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_311 : BitVec 32 := 2#32
  let v350 : BitVec 32 := Scalar.muli v2 c2_i32_311
  let v351 : BitVec 32 := Scalar.addi c0_i32_312 v350
  let c1_i32_307 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v349 : BitVec 32 := Scalar.subi c1_i32_307 v5
  let c1_i32_313 : BitVec 32 := 1#32
  let v352 : BitVec 32 := Scalar.muli v349 c1_i32_313
  let v353 : BitVec 32 := Scalar.addi v351 v352
  v353.toNat
def k0_off4 (d0 : Dev nD) : Fin 2 → Nat :=
  let c768_i32_362 : BitVec 32 := 768#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  ![768, v6.toNat]
def k0_dev22 (d0 : Dev nD) : Nat :=
  let c0_i32_370 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_369 : BitVec 32 := 2#32
  let v405 : BitVec 32 := Scalar.muli v2 c2_i32_369
  let v406 : BitVec 32 := Scalar.addi c0_i32_370 v405
  let c1_i32_365 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v404 : BitVec 32 := Scalar.subi c1_i32_365 v5
  let c1_i32_371 : BitVec 32 := 1#32
  let v407 : BitVec 32 := Scalar.muli v404 c1_i32_371
  let v408 : BitVec 32 := Scalar.addi v406 v407
  v408.toNat
def k0_off5 (d0 : Dev nD) : Fin 2 → Nat :=
  let c1024_i32_420 : BitVec 32 := 1024#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  ![1024, v6.toNat]
def k0_dev23 (d0 : Dev nD) : Nat :=
  let c0_i32_428 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_427 : BitVec 32 := 2#32
  let v460 : BitVec 32 := Scalar.muli v2 c2_i32_427
  let v461 : BitVec 32 := Scalar.addi c0_i32_428 v460
  let c1_i32_423 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v459 : BitVec 32 := Scalar.subi c1_i32_423 v5
  let c1_i32_429 : BitVec 32 := 1#32
  let v462 : BitVec 32 := Scalar.muli v459 c1_i32_429
  let v463 : BitVec 32 := Scalar.addi v461 v462
  v463.toNat
def k0_off6 (d0 : Dev nD) : Fin 2 → Nat :=
  let c1280_i32_478 : BitVec 32 := 1280#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  ![1280, v6.toNat]
def k0_dev24 (d0 : Dev nD) : Nat :=
  let c0_i32_486 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_485 : BitVec 32 := 2#32
  let v515 : BitVec 32 := Scalar.muli v2 c2_i32_485
  let v516 : BitVec 32 := Scalar.addi c0_i32_486 v515
  let c1_i32_481 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v514 : BitVec 32 := Scalar.subi c1_i32_481 v5
  let c1_i32_487 : BitVec 32 := 1#32
  let v517 : BitVec 32 := Scalar.muli v514 c1_i32_487
  let v518 : BitVec 32 := Scalar.addi v516 v517
  v518.toNat
def k0_off7 (d0 : Dev nD) : Fin 2 → Nat :=
  let c1536_i32_536 : BitVec 32 := 1536#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  ![1536, v6.toNat]
def k0_dev25 (d0 : Dev nD) : Nat :=
  let c0_i32_544 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_543 : BitVec 32 := 2#32
  let v570 : BitVec 32 := Scalar.muli v2 c2_i32_543
  let v571 : BitVec 32 := Scalar.addi c0_i32_544 v570
  let c1_i32_539 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v569 : BitVec 32 := Scalar.subi c1_i32_539 v5
  let c1_i32_545 : BitVec 32 := 1#32
  let v572 : BitVec 32 := Scalar.muli v569 c1_i32_545
  let v573 : BitVec 32 := Scalar.addi v571 v572
  v573.toNat
def k0_off8 (d0 : Dev nD) : Fin 2 → Nat :=
  let c1792_i32_594 : BitVec 32 := 1792#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  ![1792, v6.toNat]
def k0_dev26 (d0 : Dev nD) : Nat :=
  let c0_i32_602 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_601 : BitVec 32 := 2#32
  let v625 : BitVec 32 := Scalar.muli v2 c2_i32_601
  let v626 : BitVec 32 := Scalar.addi c0_i32_602 v625
  let c1_i32_597 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v624 : BitVec 32 := Scalar.subi c1_i32_597 v5
  let c1_i32_603 : BitVec 32 := 1#32
  let v627 : BitVec 32 := Scalar.muli v624 c1_i32_603
  let v628 : BitVec 32 := Scalar.addi v626 v627
  v628.toNat
def k0_off9 (d0 : Dev nD) : Fin 2 → Nat :=
  let c2048_i32_652 : BitVec 32 := 2048#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  ![2048, v6.toNat]
def k0_dev27 (d0 : Dev nD) : Nat :=
  let c0_i32_660 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_659 : BitVec 32 := 2#32
  let v680 : BitVec 32 := Scalar.muli v2 c2_i32_659
  let v681 : BitVec 32 := Scalar.addi c0_i32_660 v680
  let c1_i32_655 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v679 : BitVec 32 := Scalar.subi c1_i32_655 v5
  let c1_i32_661 : BitVec 32 := 1#32
  let v682 : BitVec 32 := Scalar.muli v679 c1_i32_661
  let v683 : BitVec 32 := Scalar.addi v681 v682
  v683.toNat
def k0_off10 (d0 : Dev nD) : Fin 2 → Nat :=
  let c2304_i32_710 : BitVec 32 := 2304#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  ![2304, v6.toNat]
def k0_dev28 (d0 : Dev nD) : Nat :=
  let c0_i32_718 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_717 : BitVec 32 := 2#32
  let v735 : BitVec 32 := Scalar.muli v2 c2_i32_717
  let v736 : BitVec 32 := Scalar.addi c0_i32_718 v735
  let c1_i32_713 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v734 : BitVec 32 := Scalar.subi c1_i32_713 v5
  let c1_i32_719 : BitVec 32 := 1#32
  let v737 : BitVec 32 := Scalar.muli v734 c1_i32_719
  let v738 : BitVec 32 := Scalar.addi v736 v737
  v738.toNat
def k0_off11 (d0 : Dev nD) : Fin 2 → Nat :=
  let c2560_i32_768 : BitVec 32 := 2560#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  ![2560, v6.toNat]
def k0_dev29 (d0 : Dev nD) : Nat :=
  let c0_i32_776 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_775 : BitVec 32 := 2#32
  let v790 : BitVec 32 := Scalar.muli v2 c2_i32_775
  let v791 : BitVec 32 := Scalar.addi c0_i32_776 v790
  let c1_i32_771 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v789 : BitVec 32 := Scalar.subi c1_i32_771 v5
  let c1_i32_777 : BitVec 32 := 1#32
  let v792 : BitVec 32 := Scalar.muli v789 c1_i32_777
  let v793 : BitVec 32 := Scalar.addi v791 v792
  v793.toNat
def k0_off12 (d0 : Dev nD) : Fin 2 → Nat :=
  let c2816_i32_826 : BitVec 32 := 2816#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  ![2816, v6.toNat]
def k0_dev30 (d0 : Dev nD) : Nat :=
  let c0_i32_834 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_833 : BitVec 32 := 2#32
  let v845 : BitVec 32 := Scalar.muli v2 c2_i32_833
  let v846 : BitVec 32 := Scalar.addi c0_i32_834 v845
  let c1_i32_829 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v844 : BitVec 32 := Scalar.subi c1_i32_829 v5
  let c1_i32_835 : BitVec 32 := 1#32
  let v847 : BitVec 32 := Scalar.muli v844 c1_i32_835
  let v848 : BitVec 32 := Scalar.addi v846 v847
  v848.toNat
def k0_off13 (d0 : Dev nD) : Fin 2 → Nat :=
  let c3072_i32_884 : BitVec 32 := 3072#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  ![3072, v6.toNat]
def k0_dev31 (d0 : Dev nD) : Nat :=
  let c0_i32_892 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_891 : BitVec 32 := 2#32
  let v900 : BitVec 32 := Scalar.muli v2 c2_i32_891
  let v901 : BitVec 32 := Scalar.addi c0_i32_892 v900
  let c1_i32_887 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v899 : BitVec 32 := Scalar.subi c1_i32_887 v5
  let c1_i32_893 : BitVec 32 := 1#32
  let v902 : BitVec 32 := Scalar.muli v899 c1_i32_893
  let v903 : BitVec 32 := Scalar.addi v901 v902
  v903.toNat
def k0_off14 (d0 : Dev nD) : Fin 2 → Nat :=
  let c3328_i32_942 : BitVec 32 := 3328#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  ![3328, v6.toNat]
def k0_dev32 (d0 : Dev nD) : Nat :=
  let c0_i32_950 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_949 : BitVec 32 := 2#32
  let v955 : BitVec 32 := Scalar.muli v2 c2_i32_949
  let v956 : BitVec 32 := Scalar.addi c0_i32_950 v955
  let c1_i32_945 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v954 : BitVec 32 := Scalar.subi c1_i32_945 v5
  let c1_i32_951 : BitVec 32 := 1#32
  let v957 : BitVec 32 := Scalar.muli v954 c1_i32_951
  let v958 : BitVec 32 := Scalar.addi v956 v957
  v958.toNat
def k0_off15 (d0 : Dev nD) : Fin 2 → Nat :=
  let c3584_i32_1000 : BitVec 32 := 3584#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  ![3584, v6.toNat]
def k0_dev33 (d0 : Dev nD) : Nat :=
  let c0_i32_1008 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1007 : BitVec 32 := 2#32
  let v1010 : BitVec 32 := Scalar.muli v2 c2_i32_1007
  let v1011 : BitVec 32 := Scalar.addi c0_i32_1008 v1010
  let c1_i32_1003 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1009 : BitVec 32 := Scalar.subi c1_i32_1003 v5
  let c1_i32_1009 : BitVec 32 := 1#32
  let v1012 : BitVec 32 := Scalar.muli v1009 c1_i32_1009
  let v1013 : BitVec 32 := Scalar.addi v1011 v1012
  v1013.toNat
def k0_off16 (d0 : Dev nD) : Fin 2 → Nat :=
  let c3840_i32_1051 : BitVec 32 := 3840#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  ![3840, v6.toNat]
def k0_dev34 (d0 : Dev nD) : Nat :=
  let c0_i32_1059 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1058 : BitVec 32 := 2#32
  let v1059 : BitVec 32 := Scalar.muli v2 c2_i32_1058
  let v1060 : BitVec 32 := Scalar.addi c0_i32_1059 v1059
  let c1_i32_1054 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1058 : BitVec 32 := Scalar.subi c1_i32_1054 v5
  let c1_i32_1060 : BitVec 32 := 1#32
  let v1061 : BitVec 32 := Scalar.muli v1058 c1_i32_1060
  let v1062 : BitVec 32 := Scalar.addi v1060 v1061
  v1062.toNat
-- ==== ReferenceIdeal.lean ====
abbrev S2x4096x4096 : Shape := ⟨3, ![2, 4096, 4096]⟩
abbrev S_ : Shape := ⟨0, ![]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S_, .f32⟩
  | .hbm, ⟨2, _⟩ => ⟨S4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Vocab.lean ====
/-
# The vocabulary of the all-reduce: partners, views, semaphores, and the kernel as sixteen chunks

The mesh is 2 by 2: device `c` sits at `(c / 2, c % 2)`. Its x partner holds the other block of `x` over the same
columns, its y partner the same block over the other columns. The kernel handshakes with both partners on the barrier
semaphore, sends its whole block to the x partner in sixteen row pieces, and then, piece by piece and with two slots,
loads its own piece, adds the piece received, stores the sum into its own column half of the result and sends the sum
into the same column half of the y partner's result.

This module names the views and the semaphores by the number of the piece and the slot, states the kernel as a sequence
over those numbers, and identifies it with the printed program.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The partners -/

/-- The device with the other block of `x` over the same columns. -/
def xp (c : Dev nD) : Dev nD := ⟨(c.val % 2 + 2) - 2 * (c.val / 2), by have : c.val < 4 := c.isLt; show _ < 4; omega⟩
/-- The device with the same block of `x` over the other columns. -/
def yp (c : Dev nD) : Dev nD := ⟨(2 * (c.val / 2) + 1) - c.val % 2, by have : c.val < 4 := c.isLt; show _ < 4; omega⟩

theorem xp_xp (c : Dev nD) : xp (xp c) = c := by revert c; decide
theorem yp_yp (c : Dev nD) : yp (yp c) = c := by revert c; decide
theorem xp_ne_yp (c : Dev nD) : xp c ≠ yp c := by revert c; decide
theorem xp_col (c : Dev nD) : (xp c).val % 2 = c.val % 2 := by revert c; decide
theorem yp_col (c : Dev nD) : (yp c).val % 2 = 1 - c.val % 2 := by revert c; decide

/-- The x partner as the printed program computes it for the transfer of piece `j`. -/
def dvx (d : Dev nD) : Fin 16 → Dev nD := fun
  | ⟨0, _⟩ => ⟨k0_dev3 d, k0_dev3_lt d⟩ | ⟨1, _⟩ => ⟨k0_dev4 d, k0_dev4_lt d⟩ | ⟨2, _⟩ => ⟨k0_dev5 d, k0_dev5_lt d⟩ | ⟨3, _⟩ => ⟨k0_dev6 d, k0_dev6_lt d⟩
  | ⟨4, _⟩ => ⟨k0_dev7 d, k0_dev7_lt d⟩ | ⟨5, _⟩ => ⟨k0_dev8 d, k0_dev8_lt d⟩ | ⟨6, _⟩ => ⟨k0_dev9 d, k0_dev9_lt d⟩ | ⟨7, _⟩ => ⟨k0_dev10 d, k0_dev10_lt d⟩
  | ⟨8, _⟩ => ⟨k0_dev11 d, k0_dev11_lt d⟩ | ⟨9, _⟩ => ⟨k0_dev12 d, k0_dev12_lt d⟩ | ⟨10, _⟩ => ⟨k0_dev13 d, k0_dev13_lt d⟩ | ⟨11, _⟩ => ⟨k0_dev14 d, k0_dev14_lt d⟩
  | ⟨12, _⟩ => ⟨k0_dev15 d, k0_dev15_lt d⟩ | ⟨13, _⟩ => ⟨k0_dev16 d, k0_dev16_lt d⟩ | ⟨14, _⟩ => ⟨k0_dev17 d, k0_dev17_lt d⟩ | ⟨15, _⟩ => ⟨k0_dev18 d, k0_dev18_lt d⟩
  | ⟨_ + 16, h⟩ => absurd h (Nat.not_lt.2 (Nat.le_add_left _ _))

/-- The y partner as the printed program computes it for the transfer of sum `j`. -/
def dvy (d : Dev nD) : Fin 16 → Dev nD := fun
  | ⟨0, _⟩ => ⟨k0_dev19 d, k0_dev19_lt d⟩ | ⟨1, _⟩ => ⟨k0_dev20 d, k0_dev20_lt d⟩ | ⟨2, _⟩ => ⟨k0_dev21 d, k0_dev21_lt d⟩ | ⟨3, _⟩ => ⟨k0_dev22 d, k0_dev22_lt d⟩
  | ⟨4, _⟩ => ⟨k0_dev23 d, k0_dev23_lt d⟩ | ⟨5, _⟩ => ⟨k0_dev24 d, k0_dev24_lt d⟩ | ⟨6, _⟩ => ⟨k0_dev25 d, k0_dev25_lt d⟩ | ⟨7, _⟩ => ⟨k0_dev26 d, k0_dev26_lt d⟩
  | ⟨8, _⟩ => ⟨k0_dev27 d, k0_dev27_lt d⟩ | ⟨9, _⟩ => ⟨k0_dev28 d, k0_dev28_lt d⟩ | ⟨10, _⟩ => ⟨k0_dev29 d, k0_dev29_lt d⟩ | ⟨11, _⟩ => ⟨k0_dev30 d, k0_dev30_lt d⟩
  | ⟨12, _⟩ => ⟨k0_dev31 d, k0_dev31_lt d⟩ | ⟨13, _⟩ => ⟨k0_dev32 d, k0_dev32_lt d⟩ | ⟨14, _⟩ => ⟨k0_dev33 d, k0_dev33_lt d⟩ | ⟨15, _⟩ => ⟨k0_dev34 d, k0_dev34_lt d⟩
  | ⟨_ + 16, h⟩ => absurd h (Nat.not_lt.2 (Nat.le_add_left _ _))

/-- Where piece `j` of the column half of device `d` starts in the result, as the printed program computes it. -/
def offs (d : Dev nD) : Fin 16 → Fin 2 → Nat := fun
  | ⟨0, _⟩ => k0_off1 d | ⟨1, _⟩ => k0_off2 d | ⟨2, _⟩ => k0_off3 d | ⟨3, _⟩ => k0_off4 d | ⟨4, _⟩ => k0_off5 d | ⟨5, _⟩ => k0_off6 d | ⟨6, _⟩ => k0_off7 d | ⟨7, _⟩ => k0_off8 d
  | ⟨8, _⟩ => k0_off9 d | ⟨9, _⟩ => k0_off10 d | ⟨10, _⟩ => k0_off11 d | ⟨11, _⟩ => k0_off12 d | ⟨12, _⟩ => k0_off13 d | ⟨13, _⟩ => k0_off14 d | ⟨14, _⟩ => k0_off15 d | ⟨15, _⟩ => k0_off16 d
  | ⟨_ + 16, h⟩ => absurd h (Nat.not_lt.2 (Nat.le_add_left _ _))

theorem dvx_eq (d : Dev nD) (j : Fin 16) : dvx d j = xp d := by
  refine Fin.ext ?_
  fin_cases j
  exacts [k0_dev3_eq d, k0_dev4_eq d, k0_dev5_eq d, k0_dev6_eq d, k0_dev7_eq d, k0_dev8_eq d, k0_dev9_eq d, k0_dev10_eq d,
    k0_dev11_eq d, k0_dev12_eq d, k0_dev13_eq d, k0_dev14_eq d, k0_dev15_eq d, k0_dev16_eq d, k0_dev17_eq d, k0_dev18_eq d]

theorem dvy_eq (d : Dev nD) (j : Fin 16) : dvy d j = yp d := by
  refine Fin.ext ?_
  fin_cases j
  exacts [k0_dev19_eq d, k0_dev20_eq d, k0_dev21_eq d, k0_dev22_eq d, k0_dev23_eq d, k0_dev24_eq d, k0_dev25_eq d, k0_dev26_eq d,
    k0_dev27_eq d, k0_dev28_eq d, k0_dev29_eq d, k0_dev30_eq d, k0_dev31_eq d, k0_dev32_eq d, k0_dev33_eq d, k0_dev34_eq d]

/-- Piece `j` starts at row `256 j`, in the device's column half. -/
theorem offs_eq (d : Dev nD) (j : Fin 16) : offs d j = ![256 * j.val, 2048 * (d.val % 2)] := by
  fin_cases j
  exacts [k0_off1_eq d, k0_off2_eq d, k0_off3_eq d, k0_off4_eq d, k0_off5_eq d, k0_off6_eq d, k0_off7_eq d, k0_off8_eq d,
    k0_off9_eq d, k0_off10_eq d, k0_off11_eq d, k0_off12_eq d, k0_off13_eq d, k0_off14_eq d, k0_off15_eq d, k0_off16_eq d]

theorem offs_inb (d : Dev nD) (j : Fin 16) : ∀ a, offs d j a + S256x2048.size a ≤ S4096x4096.size a := by
  rw [offs_eq]; revert d j; decide

theorem dev1_eq (d : Dev nD) : (⟨k0_dev1 d, k0_dev1_lt d⟩ : Dev nD) = xp d := Fin.ext (k0_dev1_eq d)
theorem dev2_eq (d : Dev nD) : (⟨k0_dev2 d, k0_dev2_lt d⟩ : Dev nD) = yp d := Fin.ext (k0_dev2_eq d)

/-! ## The views and the semaphores -/

theorem inb_x (j : Fin 16) : ∀ a, (![0, 256 * j.val, 0] : Fin 3 → Nat) a + S1x256x2048.size a ≤ S1x4096x2048.size a := by revert j; decide
theorem inb_r (j : Fin 16) : ∀ a, (![256 * j.val, 0] : Fin 2 → Nat) a + S256x2048.size a ≤ S4096x2048.size a := by revert j; decide
theorem inb_s (s : Fin 2) : ∀ a, (![s.val, 0, 0] : Fin 3 → Nat) a + S1x256x2048.size a ≤ S2x256x2048.size a := by revert s; decide
theorem inb_m2 (s : Fin 2) : ∀ a, (![s.val] : Fin 1 → Nat) a + S1.size a ≤ S2.size a := by revert s; decide
theorem inb_m16 (j : Fin 16) : ∀ a, (![j.val] : Fin 1 → Nat) a + S1.size a ≤ S16.size a := by revert j; decide

abbrev xA : Memref sig .tc .hbm S1x4096x2048 .f32 := Memref.whole main_arg0
abbrev oA : Memref sig .tc .hbm S4096x4096 .f32 := Memref.whole main_v1
abbrev rV : Memref sig .tc .vmem S4096x2048 .f32 := Memref.whole cc0_scratch0
abbrev xV : Memref sig .tc .vmem S2x256x2048 .f32 := Memref.whole cc0_scratch1
abbrev sV : Memref sig .tc .vmem S2x256x2048 .f32 := Memref.whole cc0_scratch2

abbrev xrect (j : Fin 16) : Rect S1x4096x2048 := Rect.unit (s := S1x4096x2048) ![0, 256 * j.val, 0] S1x256x2048.size (inb_x j)
abbrev rrect (j : Fin 16) : Rect S4096x2048 := Rect.unit (s := S4096x2048) ![256 * j.val, 0] S256x2048.size (inb_r j)
abbrev srect (s : Fin 2) : Rect S2x256x2048 := Rect.unit (s := S2x256x2048) ![s.val, 0, 0] S1x256x2048.size (inb_s s)
abbrev orect (d : Dev nD) (j : Fin 16) : Rect S4096x4096 := Rect.unit (s := S4096x4096) (offs d j) S256x2048.size (offs_inb d j)

/-- Piece `j` of the device's block of `x`. -/
abbrev xsrc (j : Fin 16) : Memref sig .tc .hbm S256x2048 .f32 :=
  (xA.slice (xrect j) (fun _ => rfl)).squeeze S256x2048 squeezes_S1x256x2048_S256x2048
/-- Where piece `j` of the x partner's block lands. -/
abbrev rrow (j : Fin 16) : Memref sig .tc .vmem S256x2048 .f32 := rV.slice (rrect j) (fun _ => rfl)
/-- Slot `s` of the buffer of loaded pieces. -/
abbrev xslot (s : Fin 2) : Memref sig .tc .vmem S256x2048 .f32 :=
  (xV.slice (srect s) (fun _ => rfl)).squeeze S256x2048 squeezes_S1x256x2048_S256x2048
/-- Slot `s` of the buffer of sums. -/
abbrev sslot (s : Fin 2) : Memref sig .tc .vmem S256x2048 .f32 :=
  (sV.slice (srect s) (fun _ => rfl)).squeeze S256x2048 squeezes_S1x256x2048_S256x2048
/-- Piece `j` of the column half of device `d` in the result. -/
abbrev orow (d : Dev nD) (j : Fin 16) : Memref sig .tc .hbm S256x2048 .f32 := oA.slice (orect d j) (fun _ => rfl)

abbrev at2 (q : DmaSems sig S2) (s : Fin 2) : DmaSem sig :=
  ((q.slice (Rect.unit (s := S2) ![s.val] S1.size (inb_m2 s))).squeeze S_ squeezes_S1_S_).sem
abbrev at16 (q : DmaSems sig S16) (j : Fin 16) : DmaSem sig :=
  ((q.slice (Rect.unit (s := S16) ![j.val] S1.size (inb_m16 j))).squeeze S_ squeezes_S1_S_).sem

abbrev ldS (s : Fin 2) : DmaSem sig := at2 cc0_scratch3 s
abbrev stS (s : Fin 2) : DmaSem sig := at2 cc0_scratch4 s
/-- The four families of sixteen transfer semaphores: departures and arrivals of the pieces of `x`, departures and arrivals of the sums. -/
def fam : Fin 4 → DmaSems sig S16 := fun
  | ⟨0, _⟩ => cc0_scratch5 | ⟨1, _⟩ => cc0_scratch6 | ⟨2, _⟩ => cc0_scratch7 | ⟨3, _⟩ => cc0_scratch8
  | ⟨_ + 4, h⟩ => absurd h (Nat.not_lt.2 (Nat.le_add_left _ _))
abbrev fS (a : Fin 4) (j : Fin 16) : DmaSem sig := at16 (fam a) j
abbrev barS : Sem sig := (SemArray.scalar (sig.barrier 0 rfl) : Sems sig S_).sem

/-- The slot of chunk `j`. -/
abbrev par (j : Fin 16) : Fin 2 := ⟨j.val % 2, Nat.mod_lt _ (by decide)⟩
/-- Number `n` as a chunk. -/
abbrev fi (n : ℕ) : Fin 16 := ⟨n % 16, Nat.mod_lt _ (by decide)⟩

/-! ## The kernel as a sequence over the chunks -/

section Program

/-- `f n`, `f (n + 1)`, … (`k` of them). -/
def seq (f : ℕ → Prog (TpuEff nD τ sig (Elt F) Λ₀ .tc) PUnit) : (k n : ℕ) → Prog (TpuEff nD τ sig (Elt F) Λ₀ .tc) PUnit
  | 0, _ => pure ⟨⟩
  | k + 1, n => do f n; seq f k (n + 1)

/-- The sum of a loaded piece (a slot of the buffer) and a received piece, as the slot stores it. -/
def sumPay (v : Vec F S1x256x2048 .f32) (w : Vec F S256x2048 .f32) : FVec F S1x256x2048 .f32 := k0_pay1 v w

/-- The two signals and the wait. -/
def pHand (d : Dev nD) : Prog (TpuEff nD τ sig (Elt F) Λ₀ .tc) PUnit := do
  semSignalWord (⟨k0_dev1 d, k0_dev1_lt d⟩ : Dev nD) barS 1#32
  semSignalWord (⟨k0_dev2 d, k0_dev2_lt d⟩ : Dev nD) barS 1#32
  semWaitWord barS 2#32

/-- Piece `j` sent to the x partner. -/
def pSendX (d : Dev nD) (j : Fin 16) : Prog (TpuEff nD τ sig (Elt F) Λ₀ .tc) PUnit :=
  Prog.lift (.enqueueDma (xsrc j) (.remote (Dev.tc (dvx d j)) (rrow j) (.dma (fS 0 j))) (.dma (fS 1 j)) ((View.wordExact_bits rfl).reshape _ _) (View.wordExact_bits rfl) ⟨⟨rfl, Or.inl rfl⟩, trivial⟩)

/-- Piece `j` started into its slot. -/
def pLoad (j : Fin 16) : Prog (TpuEff nD τ sig (Elt F) Λ₀ .tc) PUnit :=
  Prog.lift (.enqueueDma (xsrc j) (.here (xslot (par j))) (.dma (ldS (par j))) ((View.wordExact_bits rfl).reshape _ _) ((View.wordExact_bits rfl).reshape _ _) ⟨Or.inl rfl, trivial⟩)

/-- The next piece started, if there is one. -/
def pNext (n : ℕ) : Prog (TpuEff nD τ sig (Elt F) Λ₀ .tc) PUnit := if n < 16 then pLoad (fi n) else pure ⟨⟩

/-- The wait for the piece in its slot. -/
def pGot (j : Fin 16) : Prog (TpuEff nD τ sig (Elt F) Λ₀ .tc) PUnit :=
  Prog.lift (.waitDma2 (ldS (par j)) (xsrc j) (xslot (par j)) ((View.wordExact_bits rfl).reshape _ _) ((View.wordExact_bits rfl).reshape _ _))

/-- The wait for the store of sum `j`. -/
def pStored (d : Dev nD) (j : Fin 16) : Prog (TpuEff nD τ sig (Elt F) Λ₀ .tc) PUnit :=
  Prog.lift (.waitDma2 (stS (par j)) (sslot (par j)) (orow d j) ((View.wordExact_bits rfl).reshape _ _) (View.wordExact_bits rfl))

/-- The wait for the departure of sum `j`. -/
def pSent (d : Dev nD) (j : Fin 16) : Prog (TpuEff nD τ sig (Elt F) Λ₀ .tc) PUnit :=
  Prog.lift (.waitDma2 (fS 2 j) (orow d j) (sslot (par j)) (View.wordExact_bits rfl) ((View.wordExact_bits rfl).reshape _ _))

/-- The slot of chunk `n` freed: the store and the departure of the sum two chunks before, if there was one. -/
def pFree (d : Dev nD) : ℕ → Prog (TpuEff nD τ sig (Elt F) Λ₀ .tc) PUnit
  | 0 | 1 => pure ⟨⟩
  | n + 2 => do pStored d (fi n); pSent d (fi n)

/-- The wait for the x partner's piece, then the sum. -/
def pSum (j : Fin 16) : Prog (TpuEff nD τ sig (Elt F) Λ₀ .tc) PUnit := do
  Prog.lift (.waitDma2 (fS 1 j) (xsrc j) (rrow j) ((View.wordExact_bits rfl).reshape _ _) (View.wordExact_bits rfl))
  let v : Vec F S1x256x2048 .f32 ← Prog.lift (.load xV (srect (par j)).toLoadRect (View.loadsAt_vmem h_S1x256x2048))
  let w : Vec F S256x2048 .f32 ← Prog.lift (.load rV (rrect j).toLoadRect (View.loadsAt_vmem h_S256x2048))
  let _ : Vec F S1x256x2048 .f32 ← Prog.lift (.load sV (srect (par j)).toLoadRect (View.loadsAt_vmem h_S1x256x2048))
  Prog.lift (.store sV (srect (par j)) (sumPay v w) Finset.univ (View.stores_vmem_bits_univ h_S1x256x2048 rfl) (.inl rfl))

/-- Sum `j` started into the device's own result. -/
def pStore (d : Dev nD) (j : Fin 16) : Prog (TpuEff nD τ sig (Elt F) Λ₀ .tc) PUnit :=
  Prog.lift (.enqueueDma (sslot (par j)) (.here (orow d j)) (.dma (stS (par j))) ((View.wordExact_bits rfl).reshape _ _) (View.wordExact_bits rfl) ⟨Or.inl rfl, trivial⟩)

/-- Sum `j` sent to the y partner's result. -/
def pSendY (d : Dev nD) (j : Fin 16) : Prog (TpuEff nD τ sig (Elt F) Λ₀ .tc) PUnit :=
  Prog.lift (.enqueueDma (sslot (par j)) (.remote (Dev.tc (dvy d j)) (orow d j) (.dma (fS 2 j))) (.dma (fS 3 j)) ((View.wordExact_bits rfl).reshape _ _) (View.wordExact_bits rfl) ⟨⟨rfl, Or.inl rfl⟩, trivial⟩)

/-- Chunk `n`. -/
def pChunk (d : Dev nD) (n : ℕ) : Prog (TpuEff nD τ sig (Elt F) Λ₀ .tc) PUnit := do
  pNext (n + 1)
  pGot (fi n)
  pFree d n
  pSum (fi n)
  pStore d (fi n)
  pSendY d (fi n)

/-- The wait for the departure of piece `j` to the x partner. -/
def pSentX (j : Fin 16) : Prog (TpuEff nD τ sig (Elt F) Λ₀ .tc) PUnit :=
  Prog.lift (.waitDma2 (fS 0 j) (rrow j) (xsrc j) (View.wordExact_bits rfl) ((View.wordExact_bits rfl).reshape _ _))

/-- The wait for sum `j` of the y partner. -/
def pRecvY (d : Dev nD) (j : Fin 16) : Prog (TpuEff nD τ sig (Elt F) Λ₀ .tc) PUnit :=
  Prog.lift (.waitDma2 (fS 3 j) (sslot (par j)) (orow d j) ((View.wordExact_bits rfl).reshape _ _) (View.wordExact_bits rfl))

/-- The kernel from its device number on. -/
def pMain (d : Dev nD) : Prog (TpuEff nD τ sig (Elt F) Λ₀ .tc) PUnit := do
  pHand d
  seq (fun n => pSendX d (fi n)) 16 0
  pLoad 0
  seq (pChunk d) 16 0
  pFree d 16
  pFree d 17
  seq (fun n => pSentX (fi n)) 16 0
  seq (fun n => pRecvY d (fi n)) 16 0

def pBody : Prog (TpuEff nD τ sig (Elt F) Λ₀ .tc) PUnit := do
  let d ← Prog.lift .deviceId
  pMain d

end Program

end Cert.Run

end
-- ==== Proof.Schedule.lean ====
/-
# The protocol: contents, cells, schedule and levels

Each device's barrier cell hands it the x partner's landing rows and its own column half of the y partner's result; each
of the sixty-four transfer cells hands over what its transfer delivers. Contents are stated by what the windows read.
-/
module

public import proofs.«01_k».proof.Proof.Vocab
public import Idealize.ShloMosaic.Lib.Pipeline.Launch
public import Idealize.ShloMosaic.Lib.Pipeline.Kit
public import Idealize.ShloMosaic.Lib.Tactic

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the protocol's rounds, the local transfers' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The protocol's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
omit [FloatOps F] in
instance ER_landsIn : (ER : Emb UB 𝕄).LandsIn (upEmb : UEmb _ 𝕄) := by unfold ER; infer_instance

/-- The local transfers' counters. -/
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The buffers, their windows, and the contents -/

abbrev xl (c : Dev nD) : Loc nD τ sig := (c : Thread nD τ).loc main_arg0
abbrev ol (c : Dev nD) : Loc nD τ sig := (c : Thread nD τ).loc main_v1
abbrev rl (c : Dev nD) : Loc nD τ sig := (c : Thread nD τ).loc cc0_scratch0
abbrev bl (c : Dev nD) : Loc nD τ sig := (c : Thread nD τ).loc cc0_scratch1
abbrev sl (c : Dev nD) : Loc nD τ sig := (c : Thread nD τ).loc cc0_scratch2

/-- Piece `j` of device `c`'s block of `x`, as a tile. -/
def T (c : Dev nD) (j : Fin 16) : Vec F S256x2048 .f32 := (xsrc j).view.read (Elt F) (m (xl c))
/-- Sum `j` of device `c`: its own piece plus its x partner's. -/
def S (c : Dev nD) (j : Fin 16) : Vec F S256x2048 .f32 := addf (T m c j) (T m (xp c) j)

/-- Piece `j` of device `c`'s `x` at a share, holding what it held at launch. -/
def XW (q : PosShare TreeShare) (c : Dev nD) (j : Fin 16) : sProp 𝕄 := xl c ↦[(xsrc j).view.set]{q} m (xl c)
/-- The landing rows `j` of device `c`. -/
def RW (c : Dev nD) (j : Fin 16) (f : Buf (Elt F) (rl c)) : sProp 𝕄 := rl c ↦[(rrow j).view.set]{fullShare} f
/-- Piece `j` of device `c`'s result over the column half of device `d`. -/
def OW (c d : Dev nD) (j : Fin 16) (f : Buf (Elt F) (ol c)) : sProp 𝕄 := ol c ↦[(orow d j).view.set]{fullShare} f
/-- A slot of device `c`'s loaded pieces, -/
def BW (c : Dev nD) (s : Fin 2) (f : Buf (Elt F) (bl c)) : sProp 𝕄 := bl c ↦[(xslot s).view.set]{fullShare} f
/-- a slot of its sums at a share. -/
def SW (q : PosShare TreeShare) (c : Dev nD) (s : Fin 2) (f : Buf (Elt F) (sl c)) : sProp 𝕄 := sl c ↦[(sslot s).view.set]{q} f

section Storable
variable (q : PosShare TreeShare) (c d : Dev nD) (j : Fin 16) (s : Fin 2)
omit [FloatOps F] in
instance XW_storable : BI.Storable (upEmb : UEmb _ 𝕄) (XW (F := F) m q c j) := by unfold XW; infer_instance
omit [FloatOps F] in
instance RW_storable (f) : BI.Storable (upEmb : UEmb _ 𝕄) (RW (F := F) c j f) := by unfold RW; infer_instance
omit [FloatOps F] in
instance OW_storable (f) : BI.Storable (upEmb : UEmb _ 𝕄) (OW (F := F) c d j f) := by unfold OW; infer_instance
omit [FloatOps F] in
instance SW_storable (f) : BI.Storable (upEmb : UEmb _ 𝕄) (SW (F := F) q c s f) := by unfold SW; infer_instance
end Storable

/-! ## The cells -/

theorem fS_val (a : Fin 4) (j : Fin 16) : (fS a j).val = 4 + (16 * a.val + j.val) := by revert a j; decide
theorem ldS_val (s : Fin 2) : (ldS s).val = s.val := by revert s; decide
theorem stS_val (s : Fin 2) : (stS s).val = 2 + s.val := by revert s; decide

/-- Which semaphore of the four families a semaphore is, if any. -/
def dec (q : DmaSem sig) : Option (Fin 4 × Fin 16) :=
  if h : 4 ≤ q.val ∧ q.val < 68 then some (⟨(q.val - 4) / 16, by omega⟩, ⟨(q.val - 4) % 16, by omega⟩) else none

theorem dec_fS (a : Fin 4) (j : Fin 16) : dec (fS a j) = some (a, j) := by
  have h := fS_val a j
  unfold dec
  rw [dif_pos (by omega)]
  refine congrArg some (Prod.ext (Fin.ext ?_) (Fin.ext ?_)) <;> simp only <;> omega
theorem dec_ldS (s : Fin 2) : dec (ldS s) = none := by
  have h := ldS_val s; unfold dec; rw [dif_neg (by omega)]
theorem dec_stS (s : Fin 2) : dec (stS s) = none := by
  have h := stS_val s; unfold dec; rw [dif_neg (by omega)]

abbrev bar (c : Dev nD) : GSem nD τ sig := ((c : Thread nD τ), .reg barS)
abbrev cel (c : Dev nD) (a : Fin 4) (j : Fin 16) : GSem nD τ sig := ((c : Thread nD τ), .dma (fS a j))

/-- The protocol's semaphores of one device: the barrier and the four families. -/
abbrev csem : Option (Fin 4 × Fin 16) → SemLoc sig := fun | none => .reg barS | some p => .dma (fS p.1 p.2)
abbrev kcell (ck : Dev nD × Option (Fin 4 × Fin 16)) : GSem nD τ sig := ((ck.1 : Thread nD τ), csem ck.2)

/-- The credit of one tile. -/
def N : ℕ := (rrow 0).view.dmaCredit
theorem N_pos : 0 < N := View.dmaCredit_pos _ (by decide)

/-! ## The schedule -/

/-- What the x partner's signal hands device `c`: the partner's landing rows. -/
def barX (c : Dev nD) : sProp 𝕄 := bigSep Finset.univ fun j : Fin 16 => iprop(∃ f, RW (xp c) j f)
/-- What the y partner's signal hands device `c`: the partner's result over `c`'s column half. -/
def barY (c : Dev nD) : sProp 𝕄 := bigSep Finset.univ fun j : Fin 16 => iprop(∃ f, OW (yp c) c j f)

/-- What arrives with a transfer's units: the left share of the piece sent, the landing rows holding the x partner's piece, the right
    share of the slot of the sum sent, the piece of the result holding the y partner's sum. -/
def famPay (c : Dev nD) (a : Fin 4) (j : Fin 16) : sProp 𝕄 :=
  match a with
  | ⟨0, _⟩ => XW m fullShare.left c j
  | ⟨1, _⟩ => iprop(∃ f, ⌜(rrow j).view.read (Elt F) f = T m (xp c) j⌝ ∗ RW c j f)
  | ⟨2, _⟩ => iprop(∃ f, SW fullShare.right c (par j) f)
  | ⟨3, _⟩ => iprop(∃ f, ⌜(orow (yp c) j).view.read (Elt F) f = S m (yp c) j⌝ ∗ OW c (yp c) j f)
  | ⟨_ + 4, _⟩ => iprop(emp)

/-- What comes with a duty of a device's semaphore. -/
def pay (c : Dev nD) (q : SemLoc sig) (d : Bool) : sProp 𝕄 :=
  match q with
  | .reg _ => if d then barY c else barX c
  | .dma q => match dec q with
    | some (a, j) => famPay m c a j
    | none => iprop(emp)

def dut (q : SemLoc sig) : Finset Bool :=
  match q with
  | .reg q => if q = barS then Finset.univ else ∅
  | .dma q => match dec q with
    | some _ => {false}
    | none => ∅

def amt (q : SemLoc sig) : ℕ := match q with | .reg _ => 1 | .dma _ => N

/-- One round, round 0: a barrier cell has the duties `false` (from the x partner) and `true` (from the y partner) of one unit each; a
    cell of the four families the duty `false` of a tile's credit. -/
def Rd : Rounds.Schedule (GSem nD τ sig) Bool 𝕄 where
  duties g r := if r = 0 ∧ g.1.2 = .tc then dut g.2 else ∅
  unitless _ := False
  amount g _ _ := amt g.2
  payload g _ d := pay m g.1.1 g.2 d
  amount_pos g _ _ _ := by
    obtain ⟨t, q⟩ := g
    cases q
    · exact Nat.one_pos
    · exact N_pos

instance Rd_payload_storable (g : GSem nD τ sig) (r : ℕ) (d : Bool) :
    BI.Storable (upEmb : UEmb _ 𝕄) ((Rd (F := F) m).payload g r d) := by
  show BI.Storable upEmb (pay m g.1.1 g.2 d)
  unfold pay
  split
  · unfold barX barY; split <;> infer_instance
  · split
    · unfold famPay; split <;> infer_instance
    · infer_instance

section Sched
variable (c : Dev nD) (a : Fin 4) (j : Fin 16)

theorem duties_bar : (Rd (F := F) m).duties (bar c) 0 = Finset.univ := by
  dsimp only [Rd]; rw [if_pos ⟨rfl, rfl⟩]; unfold dut; exact if_pos rfl
theorem duties_cel : (Rd (F := F) m).duties (cel c a j) 0 = {false} := by
  dsimp only [Rd]; rw [if_pos ⟨rfl, rfl⟩]; unfold dut; simp only [dec_fS]
theorem duties_later (g : GSem nD τ sig) : ∀ r, 1 ≤ r → (Rd (F := F) m).duties g r = ∅ :=
  fun r hr => by dsimp only [Rd]; exact if_neg fun h => by omega
theorem amount_bar (d : Bool) : (Rd (F := F) m).amount (bar c) 0 d = 1 := rfl
theorem amount_cel (d : Bool) : (Rd (F := F) m).amount (cel c a j) 0 d = N := rfl
theorem expect_bar : (Rd (F := F) m).expect (bar c) 0 = 2 := by
  unfold Schedule.expect Schedule.amountOf
  rw [duties_bar, Finset.sum_congr rfl fun d _ => amount_bar m c d, Finset.sum_const, Finset.card_univ, Fintype.card_bool, smul_eq_mul]
theorem expect_cel : (Rd (F := F) m).expect (cel c a j) 0 = N := by
  unfold Schedule.expect Schedule.amountOf; rw [duties_cel, Finset.sum_singleton, amount_cel]
theorem payload_barX : (Rd (F := F) m).payload (bar c) 0 false = barX c := rfl
theorem payload_barY : (Rd (F := F) m).payload (bar c) 0 true = barY c := rfl
theorem payload_cel (d : Bool) : (Rd (F := F) m).payload (cel c a j) 0 d = famPay m c a j := by
  show pay m c (.dma (fS a j)) d = _
  unfold pay; simp only [dec_fS]
/-- The rest of the barrier cell's round, no duty taken: both partners' payloads. -/
theorem rest_bar : bigSep ((Rd (F := F) m).duties (bar c) 0 \ ∅) (fun d => (Rd (F := F) m).payload (bar c) 0 d) = iprop(barX c ∗ barY c) := by
  rw [Finset.sdiff_empty, duties_bar, bigSep_univ_eq_bigSepL [false, true] (by decide) (by decide), bigSepL_cons_cons, bigSepL_singleton,
    payload_barX, payload_barY]
  rfl
theorem rest_cel : bigSep ((Rd (F := F) m).duties (cel c a j) 0 \ ∅) (fun d => (Rd (F := F) m).payload (cel c a j) 0 d) = famPay m c a j := by
  rw [Finset.sdiff_empty, duties_cel, bigSep_singleton, payload_cel]

end Sched

/-! ## What each device owes; the levels -/

/-- The units of `k` tiles owed to family `a` of device `d`, from tile `n` on. -/
def ow (a : Fin 4) (d : Dev nD) : (k n : ℕ) → CellTallies nD τ sig Unit
  | 0, _ => 0
  | k + 1, n => ow a d k (n + 1) + tallyAt (cel d a (fi n)) () N

/-- After the two signals: the sums to the y partner and the pieces to the x partner. -/
def O₁ (c : Dev nD) : CellTallies nD τ sig Unit := ow 3 (yp c) 16 0 + ow 1 (xp c) 16 0
/-- At launch: also both partners' barrier units. -/
def O₀ (c : Dev nD) : CellTallies nD τ sig Unit := (O₁ c + tallyAt (bar (yp c)) () 1) + tallyAt (bar (xp c)) () 1

def L (g : GSem nD τ sig) : Finset Unit := if g.1.2 = .tc then {()} else ∅
/-- Barrier cells at 1, the arrivals of pieces at 2, the arrivals of sums at 3, everything else at 0. -/
def lvS (q : SemLoc sig) : ℕ :=
  match q with
  | .reg _ => 1
  | .dma q => match dec q with
    | some (⟨1, _⟩, _) => 2
    | some (⟨3, _⟩, _) => 3
    | _ => 0
def lv (g : GSem nD τ sig) (_ : Unit) : ℕ := lvS g.2

theorem lvS_fS (a : Fin 4) (j : Fin 16) : lvS (.dma (fS a j)) = if a = 1 then 2 else if a = 3 then 3 else 0 := by
  unfold lvS; simp only [dec_fS]
  fin_cases a <;> rfl
theorem lvS_ldS (s : Fin 2) : lvS (.dma (ldS s)) = 0 := by unfold lvS; simp only [dec_ldS]
theorem lvS_stS (s : Fin 2) : lvS (.dma (stS s)) = 0 := by unfold lvS; simp only [dec_stS]

theorem L_of_ne (g : GSem nD τ sig) (h : g.1.2 ≠ .tc) : L g = ∅ := if_neg h
theorem L_tc (c : Dev nD) (sm : SemLoc sig) : L ((c : Thread nD τ), sm) = {()} := if_pos rfl

theorem ow_pos {a : Fin 4} {d : Dev nD} {g : GSem nD τ sig} {u : Unit} : ∀ (k n : ℕ), 0 < ow a d k n g u → ∃ j, g = cel d a j
  | 0, n, h => absurd h (Nat.lt_irrefl 0)
  | k + 1, n, h => by
    unfold ow at h
    rw [Pi.add_apply, Finsupp.add_apply] at h
    rcases Nat.eq_zero_or_pos (ow a d k (n + 1) g u) with h0 | h0
    · rw [h0, Nat.zero_add] at h; exact ⟨_, (Pipeline.tallyAt_pos h).1⟩
    · exact ow_pos k (n + 1) h0

theorem O₁_pos {c : Dev nD} {g : GSem nD τ sig} {u : Unit} (k n : ℕ) (h : 0 < (ow 3 (yp c) 16 0 + ow 1 (xp c) k n) g u) :
    (∃ j, g = cel (yp c) 3 j) ∨ ∃ j, g = cel (xp c) 1 j := by
  rw [Pi.add_apply, Finsupp.add_apply] at h
  rcases Nat.eq_zero_or_pos (ow 3 (yp c) 16 0 g u) with h0 | h0
  · rw [h0, Nat.zero_add] at h; exact .inr (ow_pos _ _ h)
  · exact .inl (ow_pos _ _ h0)

omit [FloatOps F] in
/-- A device may wait on a semaphore below everything it owes. -/
theorem mayWait_of (c : Dev nD) (sm : SemLoc sig) (O : CellTallies nD τ sig Unit)
    (h : ∀ g u, 0 < O g u → ∃ d : Dev nD, ∃ q, g = ((d : Thread nD τ), q) ∧ lvS sm < lvS q) :
    (levAts L lv : sProp 𝕄) ⊢ MayWait (c : Thread nD τ) sm () O :=
  MayOwe.of_cut (L := L) (lev := lv) (lvS sm) (fun p hp => by rw [Finset.mem_singleton.mp hp, L_tc]; exact Finset.mem_singleton_self _)
    (fun g u hg => by obtain ⟨d, q, rfl, -⟩ := h g u hg; rw [L_tc]; exact Finset.mem_singleton_self _)
    (fun p hp => by rw [Finset.mem_singleton.mp hp]; exact le_refl _)
    (fun g u hg => by obtain ⟨d, q, rfl, hq⟩ := h g u hg; exact hq)

omit [FloatOps F] in
theorem mayWait_bar (c : Dev nD) : (levAts L lv : sProp 𝕄) ⊢ MayWait (c : Thread nD τ) (.reg barS) () (O₁ c) :=
  mayWait_of c _ _ fun g u hg => by
    rcases O₁_pos 16 0 hg with ⟨j, rfl⟩ | ⟨j, rfl⟩
    · exact ⟨_, _, rfl, by rw [lvS_fS]; decide⟩
    · exact ⟨_, _, rfl, by rw [lvS_fS]; decide⟩

omit [FloatOps F] in
/-- Owing sums only, a device may wait on anything but the arrivals of sums. -/
theorem mayWait_ow (c : Dev nD) (q : SemLoc sig) (hq : lvS q < 3) (k n : ℕ) :
    (levAts L lv : sProp 𝕄) ⊢ MayWait (c : Thread nD τ) q () (ow 3 (yp c) k n) :=
  mayWait_of c _ _ fun g u hg => by
    obtain ⟨j, rfl⟩ := ow_pos k n hg
    exact ⟨_, _, rfl, by rw [lvS_fS]; exact hq⟩

/-! ## What a device holds throughout -/

/-- The cells' invariants under the names `K`, that every cell is at round 0, and the levels. -/
def Gl (K : Dev nD × Option (Fin 4 × Fin 16) → ℕ) : sProp 𝕄 :=
  iprop((bigSep Finset.univ fun ck : Dev nD × Option (Fin 4 × Fin 16) => cellInv ER (Rd m) (K ck) (kcell ck))
    ∗ (bigSep Finset.univ fun ck : Dev nD × Option (Fin 4 × Fin 16) => reached ER (kcell ck) 0) ∗ levAts L lv)

instance Gl_persistent (K : Dev nD × Option (Fin 4 × Fin 16) → ℕ) : BI.Persistent (Gl m K) := by unfold Gl; infer_instance

theorem Gl_inv (K : Dev nD × Option (Fin 4 × Fin 16) → ℕ) (ck : Dev nD × Option (Fin 4 × Fin 16)) : Gl m K ⊢ cellInv ER (Rd m) (K ck) (kcell ck) := by
  unfold Gl; iintro ⟨H, -, -⟩
  iapply (show (bigSep Finset.univ fun ck => (cellInv ER (Rd m) (K ck) (kcell ck) : sProp 𝕄)) ⊢ cellInv ER (Rd m) (K ck) (kcell ck) from bigSep_elim (Finset.mem_univ ck))
  iexact H
theorem Gl_reached (K : Dev nD × Option (Fin 4 × Fin 16) → ℕ) (ck : Dev nD × Option (Fin 4 × Fin 16)) : Gl m K ⊢ reached ER (kcell ck) 0 := by
  unfold Gl; iintro ⟨-, H, -⟩
  iapply (show (bigSep Finset.univ fun ck => (reached ER (kcell ck) 0 : sProp 𝕄)) ⊢ reached ER (kcell ck) 0 from bigSep_elim (Finset.mem_univ ck))
  iexact H
theorem Gl_lev (K : Dev nD × Option (Fin 4 × Fin 16) → ℕ) : Gl m K ⊢ levAts L lv := by
  unfold Gl; iintro ⟨-, -, H⟩; iexact H

abbrev 𝒱₀ : Variants := Variants.none

end Cert.Run

end
-- ==== Proof.Steps.lean ====
/-
# The single operations of the kernel as triples

`Tri P p R`: from `P`, device `c` runs `p` to `R`, the cells' invariants and the levels at hand throughout.
-/
module

public import proofs.«01_k».proof.Proof.Schedule
public import Idealize.ShloMosaic.Lib.Pipeline.Launch
public import Idealize.ShloMosaic.Lib.Pipeline.Kit
public import Idealize.ShloMosaic.Lib.Tactic
public import Idealize.ShloMosaic.Lib.Pipeline.Value

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Fin 4 × Fin 16) → ℕ) (c : Dev nD)

/-! ## Triples -/

/-- From `P`, and what every device holds throughout, device `c` runs `p` to `R`. -/
def Tri (P : sProp (MT nD τ sig Unit (Elt F) ℕ UU ℕ)) (p : Prog (TpuEff nD τ sig (Elt F) Λ₀ .tc) PUnit) (R : sProp (MT nD τ sig Unit (Elt F) ℕ UU ℕ)) : Prop :=
  iprop(Gl m K ∗ P) ⊢ wp frame (wpE (defs₀ (F := F)) 𝒱₀ (c : Thread nD τ) none) Set.univ p (fun _ => R)

variable {m K c}
variable {P P' R R' X Q : sProp (MT nD τ sig Unit (Elt F) ℕ UU ℕ)} {p q : Prog (TpuEff nD τ sig (Elt F) Λ₀ .tc) PUnit}

theorem Tri.seq (h : Tri m K c P p R) (h' : Tri m K c R q Q) : Tri m K c P (p >>= fun _ => q) Q := by
  unfold Tri at *
  rw [wp_bind]
  iintro ⟨#HG, HP⟩
  ihave H := h $$ [HP]
  · isplitr; · iexact HG
    iexact HP
  iapply (wp_wand _ _ _) $$ H
  iintro %a HR
  iapply h'
  isplitr; · iexact HG
  iexact HR

theorem Tri.pre (h : Tri m K c P p R) (hP : P' ⊢ P) : Tri m K c P' p R := by
  unfold Tri at *
  exact (sep_mono_right hP).trans h

theorem Tri.post (h : Tri m K c P p R) (hR : R ⊢ R') : Tri m K c P p R' := by
  unfold Tri at *
  exact h.trans (wp_mono _ _ _ fun _ => hR)

theorem Tri.frame (h : Tri m K c P p R) (X : sProp (MT nD τ sig Unit (Elt F) ℕ UU ℕ)) : Tri m K c iprop(P ∗ X) p iprop(R ∗ X) := by
  unfold Tri at *
  iintro ⟨HG, HP, HX⟩
  iapply (wp_frame_r _ _ _)
  isplitl [HG HP]
  · iapply h
    isplitl [HG] <;> iassumption
  iexact HX

theorem Tri.skip : Tri m K c P (pure ⟨⟩) P := by
  unfold Tri
  rw [Prog.pure_eq_ret, wp_ret]
  iintro ⟨-, H⟩
  imodintro
  iexact H

/-- A sequence under an invariant over how much is left and where it stands. -/
theorem Tri.loop {f : ℕ → Prog (TpuEff nD τ sig (Elt F) Λ₀ .tc) PUnit} (I : ℕ → ℕ → sProp (MT nD τ sig Unit (Elt F) ℕ UU ℕ)) {B : ℕ}
    (h : ∀ k n, k + 1 + n = B → Tri m K c (I (k + 1) n) (f n) (I k (n + 1))) :
    ∀ k n, k + n = B → Tri m K c (I k n) (Cert.Run.seq f k n) (I 0 B)
  | 0, n, hn => by obtain rfl : n = B := by omega
                   exact Tri.skip
  | k + 1, n, hn => (h k n hn).seq (Tri.loop I h k (n + 1) (by omega))

/-! ## What a device owes and where it stands at its cells -/

/-- It owes `O` (whatever waits it has booked). -/
def Ow (c : Dev nD) (O : CellTallies nD τ sig Unit) : sProp (MT nD τ sig Unit (Elt F) ℕ UU ℕ) := iprop(∃ W, owes (c : Thread nD τ) O W)
/-- It has not waited at cell `j` of family `a`; -/
def at0 (c : Dev nD) (a : Fin 4) (j : Fin 16) : sProp (MT nD τ sig Unit (Elt F) ℕ UU ℕ) := atPos ER (cel c a j) 0 ∅ 0
/-- it has. -/
def at1 (c : Dev nD) (a : Fin 4) (j : Fin 16) : sProp (MT nD τ sig Unit (Elt F) ℕ UU ℕ) := atPos ER (cel c a j) (0 + 1) ∅ 0
/-- The token of the duty on cell `j` of family `a`. -/
def tk (c : Dev nD) (a : Fin 4) (j : Fin 16) : sProp (MT nD τ sig Unit (Elt F) ℕ UU ℕ) := dutyTok ER (cel c a j) 0 false
/-- The credit for the wait at it. -/
def cr (c : Dev nD) (a : Fin 4) (j : Fin 16) : sProp (MT nD τ sig Unit (Elt F) ℕ UU ℕ) := cred (tallyAt (cel c a j) () N)

/-! ## The single operations -/

/-- A wait at a cell of the four families. -/
theorem tri_wait {sp sp' : Space} {s' : Shape} {e' : EltTy} (a : Fin 4) (j : Fin 16) {src : Memref sig .tc sp' s' e'} {dst : Memref sig .tc sp S256x2048 .f32}
    {hsrc : src.view.WordExact} {hdst : dst.view.WordExact} (hN : dst.view.dmaCredit = N) (O : CellTallies nD τ sig Unit)
    (hO : (levAts L lv : sProp 𝕄) ⊢ MayWait (c : Thread nD τ) (.dma (fS a j)) () O) :
    Tri m K c iprop(cr c a j ∗ at0 c a j ∗ Ow c O) (Prog.lift (.waitDma2 (fS a j) src dst hsrc hdst)) iprop(famPay m c a j ∗ at1 c a j ∗ Ow c O) := by
  unfold Tri cr at0 Ow
  rw [Prog.lift]
  iintro ⟨#HG, Hc, Hat, ⟨%W, HO⟩⟩
  iapply (Rounds.wp_wait_rest_token 𝒱₀ ER (Rd m) (c : Thread nD τ) none (κ := K (c, some (a, j)))
      (wpE_waitDma2_eq 𝒱₀ (c : Thread nD τ) none Set.univ) (Set.mem_univ _) () (O := O) (W := W) (R := 0) (m := 0) (T := ∅)
      (by rw [Nat.zero_add, expect_cel, hN])) $$ [Hc HO Hat]
  · isplitr; · iapply (Gl_inv m K (c, some (a, j))); iexact HG
    isplitl [Hc]; · rw [hN]; iexact Hc
    isplitl [HO]; · iexact HO
    isplitr; · iapply hO; iapply (Gl_lev m K); iexact HG
    iexact Hat
  iintro ⟨HO, Hat, -, Hpay⟩
  ihave Hp := (Entails.of_eq (rest_cel m c a j)) $$ Hpay
  rw [wp_ret]; imodintro
  isplitl [Hp]; · iexact Hp
  isplitl [Hat]; · unfold at1; iexact Hat
  iexists _; iexact HO

/-- Piece `j` sent to the x partner. -/
theorem tri_sendX (j : Fin 16) (O O' : CellTallies nD τ sig Unit) (hO : O' = O + tallyAt (cel (xp c) 1 j) () N) :
    Tri m K c iprop((XW m fullShare.left c j ∗ (∃ f, RW (xp c) j f) ∗ tk c 0 j ∗ tk (xp c) 1 j) ∗ Ow c O') (pSendX c j) iprop(cr c 0 j ∗ Ow c O) := by
  unfold Tri pSendX Ow tk cr
  rw [Prog.lift]
  have gen : ∀ n : Dev nD, n = xp c → ∀ {hsc} {hsrc : (xsrc j).view.WordExact} {hdst} {hsem},
      iprop(Gl m K ∗ (XW m fullShare.left c j ∗ (∃ f, RW (xp c) j f) ∗ dutyTok ER (cel c 0 j) 0 false ∗ dutyTok ER (cel (xp c) 1 j) 0 false)
        ∗ ∃ W, owes (c : Thread nD τ) O' W) ⊢ wp frame (wpE (defs₀ (F := F)) 𝒱₀ (c : Thread nD τ) none) Set.univ
        (.op (.enqueueDma (xsrc j) (.remote (Dev.tc n) (rrow j) (.dma (fS 0 j)) hsc) (.dma (fS 1 j)) hsrc hdst hsem) .ret)
        (fun _ => iprop(cred (tallyAt (cel c 0 j) () N) ∗ ∃ W, owes (c : Thread nD τ) O W)) := by
    rintro n rfl hsc hsrc hdst hsem
    iintro ⟨#HG, ⟨Hx, ⟨%f, Hr⟩, Ht1, Ht2⟩, ⟨%W, HO⟩⟩
    unfold XW RW
    iapply (Rounds.wp_send_pointsTo (defs := defs₀ (F := F)) 𝒱₀ ER (Rd m) (c : Thread nD τ) none (c' := (xp c : Thread nD τ)) (src := xsrc j) (dst := rrow j) (sS := .dma (fS 0 j)) (sem := .dma (fS 1 j))
      (hsc := hsc) (hsrc := hsrc) (hdst := hdst) (hsem := hsem) (k := .ret) (Es := Set.univ) (q := fullShare.left) (O₀ := O') (κ₁ := K (c, some (0, j))) (κ₂ := K (xp c, some (1, j)))
      (r₁ := 0) (r₂ := 0) (d₁ := false) (d₂ := false) (fs := m (xl c)) (fd := f)
      (by rw [duties_cel]; exact Finset.mem_singleton_self _) (by rw [duties_cel]; exact Finset.mem_singleton_self _)
      () () N rfl (amount_cel m c 0 j false) (amount_cel m (xp c) 1 j false) O hO (W := W)
      (by rw [payload_cel]; exact BI.Entails.refl _)
      (by
        rw [payload_cel]
        show _ ⊢ iprop(∃ f, ⌜(rrow j).view.read (Elt F) f = T m (xp (xp c)) j⌝ ∗ RW (xp c) j f)
        unfold RW
        iintro H
        iexists ((rrow j).view.write (Elt F) f ((xsrc j).view.read (Elt F) (m (xl c))) Finset.univ)
        isplitr; · ipureintro; exact (View.read_write_univ _ _).trans (by rw [xp_xp]; rfl)
        iexact H)) $$ [Hx Hr HO Ht1 Ht2]
    · isplitr; · iapply (Gl_inv m K (c, some (0, j))); iexact HG
      isplitr; · iapply (Gl_inv m K (xp c, some (1, j))); iexact HG
      isplitl [Hx]; · iexact Hx
      isplitl [Hr]; · iexact Hr
      isplitl [HO]; · iexact HO
      isplitl [Ht1]; · iexact Ht1
      isplitr; · iapply (Gl_reached m K (c, some (0, j))); iexact HG
      isplitl [Ht2]; · iexact Ht2
      iapply (Gl_reached m K (xp c, some (1, j))); iexact HG
    iintro ⟨Hc, HO⟩
    rw [wp_ret]; imodintro
    isplitl [Hc]; · iexact Hc
    iexists _; iexact HO
  exact gen _ (dvx_eq c j)

/-- Sum `j` sent to the y partner. -/
theorem tri_sendY (j : Fin 16) (O O' : CellTallies nD τ sig Unit) (hO : O' = O + tallyAt (cel (yp c) 3 j) () N) :
    Tri m K c iprop(((∃ f, ⌜(sslot (par j)).view.read (Elt F) f = S m c j⌝ ∗ SW fullShare.right c (par j) f) ∗ (∃ f, OW (yp c) c j f) ∗ tk c 2 j ∗ tk (yp c) 3 j) ∗ Ow c O')
      (pSendY c j) iprop(cr c 2 j ∗ Ow c O) := by
  unfold Tri pSendY Ow tk cr
  rw [Prog.lift]
  have gen : ∀ n : Dev nD, n = yp c → ∀ {hsc} {hsrc : (sslot (par j)).view.WordExact} {hdst} {hsem},
      iprop(Gl m K ∗ ((∃ f, ⌜(sslot (par j)).view.read (Elt F) f = S m c j⌝ ∗ SW fullShare.right c (par j) f) ∗ (∃ f, OW (yp c) c j f) ∗ dutyTok ER (cel c 2 j) 0 false ∗ dutyTok ER (cel (yp c) 3 j) 0 false)
        ∗ ∃ W, owes (c : Thread nD τ) O' W) ⊢ wp frame (wpE (defs₀ (F := F)) 𝒱₀ (c : Thread nD τ) none) Set.univ
        (.op (.enqueueDma (sslot (par j)) (.remote (Dev.tc n) (orow c j) (.dma (fS 2 j)) hsc) (.dma (fS 3 j)) hsrc hdst hsem) .ret)
        (fun _ => iprop(cred (tallyAt (cel c 2 j) () N) ∗ ∃ W, owes (c : Thread nD τ) O W)) := by
    rintro n rfl hsc hsrc hdst hsem
    iintro ⟨#HG, ⟨⟨%fs, %hfs, Hx⟩, ⟨%f, Hr⟩, Ht1, Ht2⟩, ⟨%W, HO⟩⟩
    unfold SW OW
    iapply (Rounds.wp_send_pointsTo (defs := defs₀ (F := F)) 𝒱₀ ER (Rd m) (c : Thread nD τ) none (c' := (yp c : Thread nD τ)) (src := sslot (par j)) (dst := orow c j) (sS := .dma (fS 2 j)) (sem := .dma (fS 3 j))
      (hsc := hsc) (hsrc := hsrc) (hdst := hdst) (hsem := hsem) (k := .ret) (Es := Set.univ) (q := fullShare.right) (O₀ := O') (κ₁ := K (c, some (2, j))) (κ₂ := K (yp c, some (3, j)))
      (r₁ := 0) (r₂ := 0) (d₁ := false) (d₂ := false) (fs := fs) (fd := f)
      (by rw [duties_cel]; exact Finset.mem_singleton_self _) (by rw [duties_cel]; exact Finset.mem_singleton_self _)
      () () N rfl (amount_cel m c 2 j false) (amount_cel m (yp c) 3 j false) O hO (W := W)
      (by
        rw [payload_cel]
        show _ ⊢ iprop(∃ f, SW fullShare.right c (par j) f)
        unfold SW
        iintro H; iexists _; iexact H)
      (by
        rw [payload_cel]
        show _ ⊢ iprop(∃ f, ⌜(orow (yp (yp c)) j).view.read (Elt F) f = S m (yp (yp c)) j⌝ ∗ OW (yp c) (yp (yp c)) j f)
        unfold OW
        rw [yp_yp]
        iintro H
        iexists ((orow c j).view.write (Elt F) f ((sslot (par j)).view.read (Elt F) fs) Finset.univ)
        isplitr; · ipureintro; exact (View.read_write_univ _ _).trans hfs
        iexact H)) $$ [Hx Hr HO Ht1 Ht2]
    · isplitr; · iapply (Gl_inv m K (c, some (2, j))); iexact HG
      isplitr; · iapply (Gl_inv m K (yp c, some (3, j))); iexact HG
      isplitl [Hx]; · iexact Hx
      isplitl [Hr]; · iexact Hr
      isplitl [HO]; · iexact HO
      isplitl [Ht1]; · iexact Ht1
      isplitr; · iapply (Gl_reached m K (c, some (2, j))); iexact HG
      isplitl [Ht2]; · iexact Ht2
      iapply (Gl_reached m K (yp c, some (3, j))); iexact HG
    iintro ⟨Hc, HO⟩
    rw [wp_ret]; imodintro
    isplitl [Hc]; · iexact Hc
    iexists _; iexact HO
  exact gen _ (dvy_eq c j)

/-- The load of piece `j` in flight: it delivers the slot holding the piece, and the piece's right share back. -/
def LF (m : (ℓ : Loc nD τ sig) → Buf (Elt F) ℓ) (c : Dev nD) (j : Fin 16) : sProp (MT nD τ sig Unit (Elt F) ℕ UU ℕ) :=
  Flight EC (c : Thread nD τ) (.dma (ldS (par j))) () N iprop((∃ f, ⌜(xslot (par j)).view.read (Elt F) f = T m c j⌝ ∗ BW c (par j) f) ∗ XW m fullShare.right c j)
/-- A free slot of loaded pieces. -/
def XF (c : Dev nD) (s : Fin 2) : sProp (MT nD τ sig Unit (Elt F) ℕ UU ℕ) := iprop((∃ f, BW c s f) ∗ semVal ((c : Thread nD τ), .dma (ldS s)) 0)
/-- The store of sum `j` in flight: it delivers the piece of the result holding the sum, and the slot's left share back. -/
def SF (m : (ℓ : Loc nD τ sig) → Buf (Elt F) ℓ) (c : Dev nD) (j : Fin 16) : sProp (MT nD τ sig Unit (Elt F) ℕ UU ℕ) :=
  Flight EC (c : Thread nD τ) (.dma (stS (par j))) () N iprop((∃ f, ⌜(orow c j).view.read (Elt F) f = S m c j⌝ ∗ OW c c j f) ∗ ∃ f, SW fullShare.left c (par j) f)
/-- A free slot of sums. -/
def FS (c : Dev nD) (s : Fin 2) : sProp (MT nD τ sig Unit (Elt F) ℕ UU ℕ) := iprop((∃ f, SW fullShare c s f) ∗ semVal ((c : Thread nD τ), .dma (stS s)) 0)

theorem tri_load (j : Fin 16) : Tri m K c iprop(XF c (par j) ∗ XW m fullShare.right c j) (pLoad j) (LF m c j) := by
  unfold Tri pLoad XF LF
  rw [Prog.lift]
  iintro ⟨-, ⟨⟨%f, Hb⟩, Hv⟩, Hx⟩
  unfold BW XW
  iapply (wp_dmaLocal (defs := defs₀ (F := F)) EC 𝒱₀ (c : Thread nD τ) none (src := xsrc j) (dst := xslot (par j)) (sm := .dma (ldS (par j))) (via := .same) (q := fullShare.right) (fs := m (xl c)) (Sd := (xslot (par j)).view.set) (fd := f) () N rfl N_pos subset_rfl) $$ [Hb Hv Hx]
  · isplitl [Hx]; · iexact Hx
    isplitl [Hb]; · iexact Hb
    iexact Hv
  iintro HF
  rw [wp_ret]; imodintro
  iapply (Flight_mono EC (c : Thread nD τ) ?_) $$ HF
  iintro ⟨Hb, Hx⟩
  isplitl [Hb]
  · iexists ((xslot (par j)).view.write (Elt F) f ((xsrc j).view.read (Elt F) (m (xl c))) Finset.univ)
    isplitr; · ipureintro; exact View.read_write_univ _ _
    iexact Hb
  iexact Hx

theorem tri_store (j : Fin 16) : Tri m K c iprop(((∃ f, ⌜(sslot (par j)).view.read (Elt F) f = S m c j⌝ ∗ SW fullShare.left c (par j) f)
      ∗ semVal ((c : Thread nD τ), .dma (stS (par j))) 0) ∗ ∃ f, OW c c j f) (pStore c j) (SF m c j) := by
  unfold Tri pStore SF
  rw [Prog.lift]
  iintro ⟨-, ⟨⟨%f, %hf, Hb⟩, Hv⟩, ⟨%g, Hx⟩⟩
  unfold SW OW
  iapply (wp_dmaLocal (defs := defs₀ (F := F)) EC 𝒱₀ (c : Thread nD τ) none (src := sslot (par j)) (dst := orow c j) (sm := .dma (stS (par j))) (via := .same) (q := fullShare.left) (fs := f) (Sd := (orow c j).view.set) (fd := g) () N rfl N_pos subset_rfl) $$ [Hb Hv Hx]
  · isplitl [Hb]; · iexact Hb
    isplitl [Hx]; · iexact Hx
    iexact Hv
  iintro HF
  rw [wp_ret]; imodintro
  iapply (Flight_mono EC (c : Thread nD τ) ?_) $$ HF
  iintro ⟨Hb, Hx⟩
  isplitl [Hb]
  · iexists ((orow c j).view.write (Elt F) g ((sslot (par j)).view.read (Elt F) f) Finset.univ)
    isplitr; · ipureintro; exact (View.read_write_univ _ _).trans hf
    iexact Hb
  iexists f; iexact Hx

/-- A wait for a local transfer. -/
theorem tri_waitLocal {sp sp' : Space} {s' : Shape} {e' : EltTy} (q : DmaSem sig) (hq : lvS (.dma q) = 0) {src : Memref sig .tc sp' s' e'} {dst : Memref sig .tc sp S256x2048 .f32}
    {hsrc : src.view.WordExact} {hdst : dst.view.WordExact} (hN : dst.view.dmaCredit = N) (k n : ℕ) (D : sProp (MT nD τ sig Unit (Elt F) ℕ UU ℕ)) :
    Tri m K c iprop(Flight EC (c : Thread nD τ) (.dma q) () N D ∗ Ow c (ow 3 (yp c) k n)) (Prog.lift (.waitDma2 q src dst hsrc hdst))
      iprop((D ∗ semVal ((c : Thread nD τ), .dma q) 0) ∗ Ow c (ow 3 (yp c) k n)) := by
  unfold Tri Ow
  rw [Prog.lift]
  iintro ⟨#HG, HF, ⟨%W, HO⟩⟩
  iapply (wp_waitLocalO EC 𝒱₀ (c : Thread nD τ) none () hN (O := ow 3 (yp c) k n) (W := W)) $$ [HF HO]
  · isplitl [HF]; · iexact HF
    isplitl [HO]; · iexact HO
    iapply (mayWait_ow c (.dma q) (by rw [hq]; decide) k n); iapply (Gl_lev m K); iexact HG
  iintro ⟨HD, Hv, HO⟩
  rw [wp_ret]; imodintro
  isplitr [HO]
  · isplitl [HD] <;> iassumption
  iexists _; iexact HO

/-! ## The sum -/

/-- Loads and stores through a slot's rectangle touch the slot. -/
theorem set_sslot (s : Fin 2) : (sV.access (srect s)).set = (sslot s).view.set := (View.set_reshape _ _).symm
theorem set_xslot (s : Fin 2) : (xV.access (srect s)).set = (xslot s).view.set := (View.set_reshape _ _).symm

/-- What the slot reads after the store of the sum of what the two loads read. -/
theorem read_sum (s : Fin 2) (j : Fin 16) (fx : Buf (Elt F) (bl c)) (fr : Buf (Elt F) (rl c)) (fs : Buf (Elt F) (sl c)) :
    (sslot s).view.read (Elt F) ((sV.access (srect s)).write (Elt F) fs
        (sumPay (xV.view.readAt (Elt F) (srect s).toLoadRect fx) (rV.view.readAt (Elt F) (rrect j).toLoadRect fr)) Finset.univ)
      = addf ((xslot s).view.read (Elt F) fx) ((rrow j).view.read (Elt F) fr) := by
  show shapeCast S256x2048 ((sV.access (srect s)).read (Elt F) ((sV.access (srect s)).write (Elt F) fs _ Finset.univ)) _ = _
  rw [View.read_write_univ]
  unfold sumPay k0_pay1
  exact shapeCast_shapeCast _ _ _

/-- The two loads and the store of the sum. -/
theorem tri_add (j : Fin 16) :
    Tri m K c iprop((∃ f, ⌜(xslot (par j)).view.read (Elt F) f = T m c j⌝ ∗ BW c (par j) f) ∗ (∃ f, ⌜(rrow j).view.read (Elt F) f = T m (xp c) j⌝ ∗ RW c j f)
        ∗ ∃ f, SW fullShare c (par j) f)
      (do
        let v : Vec F S1x256x2048 .f32 ← Prog.lift (.load xV (srect (par j)).toLoadRect (View.loadsAt_vmem h_S1x256x2048))
        let w : Vec F S256x2048 .f32 ← Prog.lift (.load rV (rrect j).toLoadRect (View.loadsAt_vmem h_S256x2048))
        let _ : Vec F S1x256x2048 .f32 ← Prog.lift (.load sV (srect (par j)).toLoadRect (View.loadsAt_vmem h_S1x256x2048))
        Prog.lift (.store sV (srect (par j)) (sumPay v w) Finset.univ (View.stores_vmem_bits_univ h_S1x256x2048 rfl) (.inl rfl)))
      iprop((∃ f, BW c (par j) f) ∗ (∃ f, RW c j f) ∗ ∃ f, ⌜(sslot (par j)).view.read (Elt F) f = S m c j⌝ ∗ SW fullShare c (par j) f) := by
  unfold Tri
  simp only [Prog.lift, Prog.bind_op, Prog.bind_ret]
  unfold BW RW SW
  iintro ⟨-, ⟨%fx, %hx, Hx⟩, ⟨%fr, %hr, Hr⟩, ⟨%fs, Hs⟩⟩
  iapply (wp_load_rect (defs := defs₀ (F := F)) 𝒱₀ (c : Thread nD τ) none Set.univ (m := xV) (r := srect (par j)) (S := (xslot (par j)).view.set) (q := fullShare) (f := fx) (set_xslot (par j)).subset) $$ Hx
  iintro Hx
  iapply (wp_load_rect (defs := defs₀ (F := F)) 𝒱₀ (c : Thread nD τ) none Set.univ (m := rV) (r := rrect j) (S := (rrow j).view.set) (q := fullShare) (f := fr) subset_rfl) $$ Hr
  iintro Hr
  iapply (wp_load_rect (defs := defs₀ (F := F)) 𝒱₀ (c : Thread nD τ) none Set.univ (m := sV) (r := srect (par j)) (S := (sslot (par j)).view.set) (q := fullShare) (f := fs) (set_sslot (par j)).subset) $$ Hs
  iintro Hs
  iapply (wp_store (defs := defs₀ (F := F)) 𝒱₀ (c : Thread nD τ) none Set.univ (m := sV) (r := srect (par j)) (Mk := Finset.univ) (S := (sslot (par j)).view.set) (f := fs) (set_sslot (par j)).subset) $$ Hs
  iintro Hs
  rw [wp_ret]; imodintro
  isplitl [Hx]; · iexists fx; iexact Hx
  isplitl [Hr]; · iexists fr; iexact Hr
  iexists ((sV.access (srect (par j))).write (Elt F) fs
        (sumPay (xV.view.readAt (Elt F) (srect (par j)).toLoadRect fx) (rV.view.readAt (Elt F) (rrect j).toLoadRect fr)) Finset.univ)
  isplitr
  · ipureintro; rw [read_sum (par j) j fx fr fs, hx, hr]; rfl
  iexact Hs

end Cert.Run

end
-- ==== Proof.Body.lean ====
/-
# The body, once, at a symbolic device

The kernel as a chain of the triples of `Steps.lean`: the handshake, the pieces sent, the chunks, the last waits.
-/
module

public import proofs.«01_k».proof.Proof.Steps
public import Idealize.ShloMosaic.Lib.Pipeline.Launch
public import Idealize.ShloMosaic.Lib.Pipeline.Kit
public import Idealize.ShloMosaic.Lib.Tactic
public import Idealize.ShloMosaic.Lib.Pipeline.Value

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {K : Dev nD × Option (Fin 4 × Fin 16) → ℕ} {c : Dev nD}
variable {P P' R R' X Q : sProp (MT nD τ sig Unit (Elt F) ℕ UU ℕ)} {p q : Prog (TpuEff nD τ sig (Elt F) Λ₀ .tc) PUnit}

/-! ## Using a triple inside a program -/

/-- A triple run first: what follows starts from its result. -/
theorem tri_use (h : Tri m K c P p R) (q : Prog (TpuEff nD τ sig (Elt F) Λ₀ .tc) PUnit) (Q : sProp (MT nD τ sig Unit (Elt F) ℕ UU ℕ)) :
    iprop(Gl m K ∗ P ∗ (R -∗ wp frame (wpE (defs₀ (F := F)) 𝒱₀ (c : Thread nD τ) none) Set.univ q (fun _ => Q)))
      ⊢ wp frame (wpE (defs₀ (F := F)) 𝒱₀ (c : Thread nD τ) none) Set.univ (p >>= fun _ => q) (fun _ => Q) := by
  unfold Tri at h
  rw [wp_bind]
  iintro ⟨HG, HP, HK⟩
  ihave H := h $$ [HG HP]
  · isplitl [HG] <;> iassumption
  iapply (wp_wand _ _ _) $$ H
  iintro %a HR
  iapply HK; iexact HR

/-- A triple run last. -/
theorem tri_last (h : Tri m K c P p R) (Q : sProp (MT nD τ sig Unit (Elt F) ℕ UU ℕ)) :
    iprop(Gl m K ∗ P ∗ (R -∗ Q)) ⊢ wp frame (wpE (defs₀ (F := F)) 𝒱₀ (c : Thread nD τ) none) Set.univ p (fun _ => Q) := by
  unfold Tri at h
  iintro ⟨HG, HP, HK⟩
  ihave H := h $$ [HG HP]
  · isplitl [HG] <;> iassumption
  iapply (wp_wand _ _ _) $$ H
  iintro %a HR
  iapply HK; iexact HR

/-! ## Bundles: what is left, what is done -/

/-- `Φ n ∗ Φ (n + 1) ∗ …` (`k` of them). -/
def dn (Φ : ℕ → sProp (MT nD τ sig Unit (Elt F) ℕ UU ℕ)) : (k n : ℕ) → sProp (MT nD τ sig Unit (Elt F) ℕ UU ℕ)
  | 0, _ => iprop(emp)
  | k + 1, n => iprop(Φ n ∗ dn Φ k (n + 1))

/-- `Φ 0 ∗ … ∗ Φ (n - 1)`. -/
def up (Φ : ℕ → sProp (MT nD τ sig Unit (Elt F) ℕ UU ℕ)) : (n : ℕ) → sProp (MT nD τ sig Unit (Elt F) ℕ UU ℕ)
  | 0 => iprop(emp)
  | n + 1 => iprop(up Φ n ∗ Φ n)

omit [FloatOps F] in
theorem dn_eq (Φ : ℕ → sProp (MT nD τ sig Unit (Elt F) ℕ UU ℕ)) : ∀ k n, dn Φ k n = bigSep (Finset.Ico n (n + k)) Φ
  | 0, n => by rw [Nat.add_zero, Finset.Ico_self, bigSep_empty]; rfl
  | k + 1, n => by
    have h : Finset.Ico n (n + (k + 1)) = insert n (Finset.Ico (n + 1) (n + 1 + k)) := by
      ext i; simp only [Finset.mem_insert, Finset.mem_Ico]; omega
    rw [h, bigSep_insert (by simp), ← dn_eq Φ k (n + 1)]; rfl

omit [FloatOps F] in
theorem up_eq (Φ : ℕ → sProp (MT nD τ sig Unit (Elt F) ℕ UU ℕ)) : ∀ n, up Φ n = bigSep (Finset.range n) Φ
  | 0 => by rw [Finset.range_zero, bigSep_empty]; rfl
  | n + 1 => by
    rw [Finset.range_add_one, bigSep_insert (by simp), ← up_eq Φ n]
    exact equiv_iff.mp ⟨BI.sep_comm, BI.sep_comm⟩

omit [FloatOps F] in
theorem bigSep_fin (Φ : Fin 16 → sProp (MT nD τ sig Unit (Elt F) ℕ UU ℕ)) : bigSep Finset.univ Φ = bigSep (Finset.range 16) fun n => Φ (fi n) := by
  have h : Finset.range 16 = (Finset.univ : Finset (Fin 16)).map Fin.valEmbedding := by decide
  rw [h, bigSep_map]
  exact congrArg _ (funext fun j => congrArg Φ (Fin.ext (Nat.mod_eq_of_lt j.2).symm))

omit [FloatOps F] in
/-- All sixteen, as a bundle of what is left, -/
theorem dn_all (Φ : Fin 16 → sProp (MT nD τ sig Unit (Elt F) ℕ UU ℕ)) : bigSep Finset.univ Φ = dn (fun n => Φ (fi n)) 16 0 := by
  rw [bigSep_fin, dn_eq, Nat.zero_add, Finset.range_eq_Ico]

omit [FloatOps F] in
/-- as a bundle of what is done. -/
theorem up_all (Φ : Fin 16 → sProp (MT nD τ sig Unit (Elt F) ℕ UU ℕ)) : bigSep Finset.univ Φ = up (fun n => Φ (fi n)) 16 := by
  rw [bigSep_fin, up_eq]

/-! ## The handshake -/

/-- The two signals and the wait: the device's landing rows and its y partner's half of its result for the partners' own. -/
theorem tri_hand : Tri m K c
    iprop(cred (tallyAt (bar c) () 2) ∗ atPos ER (bar c) 0 ∅ 0 ∗ dutyTok ER (bar (xp c)) 0 false ∗ dutyTok ER (bar (yp c)) 0 true
      ∗ barX (xp c) ∗ barY (yp c) ∗ Ow c (O₀ c)) (pHand c)
    iprop(barX c ∗ barY c ∗ atPos ER (bar c) (0 + 1) ∅ 0 ∗ Ow c (O₁ c)) := by
  unfold Tri pHand Ow
  have gen : ∀ d e : Dev nD, d = xp c → e = yp c →
      iprop(Gl m K ∗ cred (tallyAt (bar c) () 2) ∗ atPos ER (bar c) 0 ∅ 0 ∗ dutyTok ER (bar (xp c)) 0 false ∗ dutyTok ER (bar (yp c)) 0 true
        ∗ barX (xp c) ∗ barY (yp c) ∗ ∃ W, owes (c : Thread nD τ) (O₀ c) W)
      ⊢ wp frame (wpE (defs₀ (F := F)) 𝒱₀ (c : Thread nD τ) none) Set.univ
          (do semSignalWord d barS 1#32; semSignalWord e barS 1#32; semWaitWord barS 2#32)
          (fun _ => iprop(barX c ∗ barY c ∗ atPos ER (bar c) (0 + 1) ∅ 0 ∗ ∃ W, owes (c : Thread nD τ) (O₁ c) W)) := by
    rintro d e rfl rfl
    simp only [semSignalWord, semWaitWord, Prog.lift, Prog.bind_op, Prog.bind_ret, Prog.pure_eq_ret]
    iintro ⟨#HG, Hcr, Hat, Ht1, Ht2, HX, HY, ⟨%W, HO⟩⟩
    iapply (Rounds.wp_signal (defs := defs₀ (F := F)) 𝒱₀ ER (Rd m) (c : Thread nD τ) none (dst := (xp c : Thread nD τ)) (κ := K (xp c, none)) (d := false)
        (by rw [duties_bar]; exact Finset.mem_univ _) ((amount_bar m (xp c) false).trans (by decide)) () (O₁ c + tallyAt (bar (yp c)) () 1) rfl) $$ [HO Ht1 HX]
    · isplitr; · iapply (Gl_inv m K (xp c, none)); iexact HG
      isplitl [HO]; · iexact HO
      isplitl [Ht1]; · iexact Ht1
      isplitl [HX]; · iapply (Entails.of_eq (payload_barX m (xp c)).symm); iexact HX
      iapply (Gl_reached m K (xp c, none)); iexact HG
    iintro HO
    iapply (Rounds.wp_signal (defs := defs₀ (F := F)) 𝒱₀ ER (Rd m) (c : Thread nD τ) none (dst := (yp c : Thread nD τ)) (κ := K (yp c, none)) (d := true)
        (by rw [duties_bar]; exact Finset.mem_univ _) ((amount_bar m (yp c) true).trans (by decide)) () (O₁ c) rfl) $$ [HO Ht2 HY]
    · isplitr; · iapply (Gl_inv m K (yp c, none)); iexact HG
      isplitl [HO]; · iexact HO
      isplitl [Ht2]; · iexact Ht2
      isplitl [HY]; · iapply (Entails.of_eq (payload_barY m (yp c)).symm); iexact HY
      iapply (Gl_reached m K (yp c, none)); iexact HG
    iintro HO
    iapply (Rounds.wp_wait_rest_token 𝒱₀ ER (Rd m) (c : Thread nD τ) none (κ := K (c, none))
        (wpE_semWait_eq 𝒱₀ (c : Thread nD τ) none Set.univ) (Set.mem_univ _) () (O := O₁ c) (W := W) (R := 0) (m := 0) (T := ∅)
        (by rw [Nat.zero_add, expect_bar]; decide)) $$ [Hcr HO Hat]
    · isplitr; · iapply (Gl_inv m K (c, none)); iexact HG
      isplitl [Hcr]; · iexact Hcr
      isplitl [HO]; · iexact HO
      isplitr; · iapply (mayWait_bar c); iapply (Gl_lev m K); iexact HG
      iexact Hat
    iintro ⟨HO, Hat, -, Hpay⟩
    ihave Hp := (Entails.of_eq (rest_bar m c)) $$ Hpay
    rw [wp_ret]; imodintro
    icases Hp with ⟨H1, H2⟩
    isplitl [H1]; · iexact H1
    isplitl [H2]; · iexact H2
    isplitl [Hat]; · iexact Hat
    iexists _; iexact HO
  exact gen _ _ (dev1_eq c) (dev2_eq c)

/-! ## The pieces sent -/

/-- What sending piece `j` takes besides the partner's landing rows. -/
def A1 (m : (ℓ : Loc nD τ sig) → Buf (Elt F) ℓ) (c : Dev nD) (j : Fin 16) : sProp (MT nD τ sig Unit (Elt F) ℕ UU ℕ) :=
  iprop(XW m fullShare.left c j ∗ tk c 0 j ∗ tk (xp c) 1 j)

theorem tri_sendAll : Tri m K c iprop(dn (fun n => A1 m c (fi n)) 16 0 ∗ barX c ∗ Ow c (O₁ c)) (Cert.Run.seq (fun n => pSendX c (fi n)) 16 0)
    iprop(up (fun n => cr c 0 (fi n)) 16 ∗ Ow c (ow 3 (yp c) 16 0)) := by
  refine ((Tri.loop (m := m) (K := K) (c := c) (fun k n => iprop(dn (fun n => A1 m c (fi n)) k n ∗ dn (fun n => iprop(∃ f, RW (xp c) (fi n) f)) k n
    ∗ up (fun n => cr c 0 (fi n)) n ∗ Ow c (ow 3 (yp c) 16 0 + ow 1 (xp c) k n))) (B := 16) ?_ 16 0 rfl).pre ?_).post ?_
  · intro k n hn
    refine ((Tri.frame (tri_sendX (m := m) (K := K) (c := c) (fi n) (ow 3 (yp c) 16 0 + ow 1 (xp c) k (n + 1)) (ow 3 (yp c) 16 0 + ow 1 (xp c) (k + 1) n)
      (add_assoc _ _ _).symm)
      iprop(dn (fun n => A1 m c (fi n)) k (n + 1) ∗ dn (fun n => iprop(∃ f, RW (xp c) (fi n) f)) k (n + 1) ∗ up (fun n => cr c 0 (fi n)) n)).pre ?_).post ?_
    · simp only [dn]
      unfold A1
      iintro ⟨⟨⟨Hx, Ht1, Ht2⟩, Hd1⟩, ⟨Hr, Hd2⟩, Hu, HO⟩
      isplitl [Hx Ht1 Ht2 Hr HO]
      · isplitr [HO]
        · isplitl [Hx]; · iexact Hx
          isplitl [Hr]; · iexact Hr
          isplitl [Ht1] <;> iassumption
        iexact HO
      isplitl [Hd1]; · iexact Hd1
      isplitl [Hd2] <;> iassumption
    · simp only [up]
      iintro ⟨⟨Hc, HO⟩, Hd1, Hd2, Hu⟩
      isplitl [Hd1]; · iexact Hd1
      isplitl [Hd2]; · iexact Hd2
      isplitr [HO]
      · isplitl [Hu] <;> iassumption
      iexact HO
  · unfold barX O₁
    rw [dn_all]
    iintro ⟨H1, H2, H3⟩
    isplitl [H1]; · iexact H1
    isplitl [H2]; · iexact H2
    isplitr; · simp only [up]; iempintro
    iexact H3
  · iintro ⟨-, -, H, HO⟩
    isplitl [H]; · iexact H
    simp only [ow, add_zero]
    iexact HO

/-! ## The chunks -/

/-- The slot of the piece in turn: its load in flight, or (all loaded) free. -/
def XB (m : (ℓ : Loc nD τ sig) → Buf (Elt F) ℓ) (c : Dev nD) : (k n : ℕ) → sProp (MT nD τ sig Unit (Elt F) ℕ UU ℕ)
  | 0, n => XF c (par (fi n))
  | _ + 1, n => LF m c (fi n)

/-- What is left after chunk `n` started its sum off: the store in flight and the departure to be waited for. -/
def SB (m : (ℓ : Loc nD τ sig) → Buf (Elt F) ℓ) (c : Dev nD) : ℕ → sProp (MT nD τ sig Unit (Elt F) ℕ UU ℕ)
  | 0 => FS c (par (fi 0))
  | 1 => FS c (par (fi 1))
  | n + 2 => iprop(SF m c (fi n) ∗ cr c 2 (fi n) ∗ at0 c 2 (fi n))

/-- A finished sum: in the device's own result, its departure waited for. -/
def Gd (m : (ℓ : Loc nD τ sig) → Buf (Elt F) ℓ) (c : Dev nD) (j : Fin 16) : sProp (MT nD τ sig Unit (Elt F) ℕ UU ℕ) :=
  iprop((∃ f, ⌜(orow c j).view.read (Elt F) f = S m c j⌝ ∗ OW c c j f) ∗ at1 c 2 j)

/-- The sum two chunks before, finished (if there was one). -/
def Gd2 (m : (ℓ : Loc nD τ sig) → Buf (Elt F) ℓ) (c : Dev nD) : ℕ → sProp (MT nD τ sig Unit (Elt F) ℕ UU ℕ)
  | 0 => iprop(emp)
  | 1 => iprop(emp)
  | n + 2 => Gd m c (fi n)

/-- What chunk `j` takes besides its piece and its slots and the y partner's piece of the result. -/
def C0 (c : Dev nD) (j : Fin 16) : sProp (MT nD τ sig Unit (Elt F) ℕ UU ℕ) :=
  iprop((cr c 1 j ∗ at0 c 1 j) ∗ (∃ f, OW c c j f) ∗ (tk c 2 j ∗ tk (yp c) 3 j) ∗ at0 c 2 j)

/-- What a chunk leaves: its piece's right share, its landing rows, its arrival waited for. -/
def Dn (m : (ℓ : Loc nD τ sig) → Buf (Elt F) ℓ) (c : Dev nD) (j : Fin 16) : sProp (MT nD τ sig Unit (Elt F) ℕ UU ℕ) :=
  iprop(XW m fullShare.right c j ∗ (∃ f, RW c j f) ∗ at1 c 1 j)

theorem par_add (n : ℕ) : par (fi (n + 2)) = par (fi n) := by
  refine Fin.ext ?_
  show (n + 2) % 16 % 2 = n % 16 % 2
  omega

/-- The next piece started into the free slot. -/
theorem tri_next (k n : ℕ) (hn : k + 1 + n = 16) :
    Tri m K c iprop(XF c (par (fi (n + 1))) ∗ dn (fun n => XW m fullShare.right c (fi n)) k (n + 1)) (pNext (n + 1))
      iprop(XB m c k (n + 1) ∗ dn (fun n => XW m fullShare.right c (fi n)) (k - 1) (n + 2)) := by
  unfold pNext
  cases k with
  | zero =>
    rw [if_neg (by omega)]
    exact Tri.skip
  | succ k =>
    rw [if_pos (by omega)]
    refine ((Tri.frame (tri_load (m := m) (K := K) (c := c) (fi (n + 1))) (dn (fun n => XW m fullShare.right c (fi n)) k (n + 2))).pre ?_).post ?_
    · simp only [dn]
      exact sep_assoc.2
    · exact Entails.refl _

theorem slot_split (s : Fin 2) (j : Fin 16) : iprop(∃ f, ⌜(sslot s).view.read (Elt F) f = S m c j⌝ ∗ SW fullShare c s f)
    ⊢ iprop((∃ f, ⌜(sslot s).view.read (Elt F) f = S m c j⌝ ∗ SW fullShare.left c s f) ∗ ∃ f, ⌜(sslot s).view.read (Elt F) f = S m c j⌝ ∗ SW fullShare.right c s f) := by
  unfold SW
  iintro ⟨%f, %hf, H⟩
  ihave H' := (pointsTo_share (PosShare.mem_left_op_right fullShare)).1 $$ H
  icases H' with ⟨H1, H2⟩
  isplitl [H1]
  · iexists f; isplitr; · ipureintro; exact hf
    iexact H1
  iexists f; isplitr; · ipureintro; exact hf
  iexact H2

omit [FloatOps F] in
/-- The two shares of a slot joined. -/
theorem slot_join (c : Dev nD) (s : Fin 2) : iprop((∃ f, SW fullShare.left c s f) ∗ ∃ f, SW fullShare.right c s f)
    ⊢ (iprop(∃ f, SW fullShare c s f) : sProp (MT nD τ sig Unit (Elt F) ℕ UU ℕ)) := by
  unfold SW
  iintro ⟨⟨%f, H1⟩, ⟨%g, H2⟩⟩
  ihave %h := (show iprop((sl c ↦[(sslot s).view.set]{fullShare.left} f) ∗ (sl c ↦[(sslot s).view.set]{fullShare.right} g))
      ⊢ (⌜∀ i ∈ (sslot s).view.set ∩ (sslot s).view.set, f i = g i ∧ _⌝ : sProp (MT nD τ sig Unit (Elt F) ℕ UU ℕ)) from pointsTo_agree) $$ [H1 H2]
  · isplitl [H1] <;> iassumption
  iexists f
  iapply (pointsTo_share (PosShare.mem_left_op_right fullShare)).2
  isplitl [H1]; · iexact H1
  iapply (Entails.of_eq (pointsTo_congr fun i hi => (h i (Finset.mem_inter.2 ⟨hi, hi⟩)).1.symm)) $$ H2

/-- The slot of chunk `n` freed. -/
theorem tri_free (k' n' : ℕ) : ∀ n, Tri m K c iprop(SB m c n ∗ Ow c (ow 3 (yp c) k' n')) (pFree c n)
    iprop((FS c (par (fi n)) ∗ Gd2 m c n) ∗ Ow c (ow 3 (yp c) k' n'))
  | 0 => Tri.skip.post (by
      unfold SB Gd2
      iintro ⟨H, HO⟩; isplitr [HO]
      · isplitl; · iexact H
        iempintro
      iexact HO)
  | 1 => Tri.skip.post (by
      unfold SB Gd2
      iintro ⟨H, HO⟩; isplitr [HO]
      · isplitl; · iexact H
        iempintro
      iexact HO)
  | n + 2 => by
    rw [par_add]
    unfold SB Gd2 SF Gd FS
    simp only [pFree]
    have h1 := tri_waitLocal (m := m) (K := K) (c := c) (stS (par (fi n))) (lvS_stS _) (src := sslot (par (fi n))) (dst := orow c (fi n))
      (hsrc := (View.wordExact_bits rfl).reshape _ _) (hdst := View.wordExact_bits rfl) rfl k' n'
      iprop((∃ f, ⌜(orow c (fi n)).view.read (Elt F) f = S m c (fi n)⌝ ∗ OW c c (fi n) f) ∗ ∃ f, SW fullShare.left c (par (fi n)) f)
    have h2 := tri_wait (m := m) (K := K) (c := c) 2 (fi n) (src := orow c (fi n)) (dst := sslot (par (fi n)))
      (hsrc := View.wordExact_bits rfl) (hdst := (View.wordExact_bits rfl).reshape _ _) rfl (ow 3 (yp c) k' n')
      (mayWait_ow c (.dma (fS 2 (fi n))) (by rw [lvS_fS]; decide) k' n')
    have e := slot_join (F := F) c (par (fi n))
    unfold Tri
    iintro ⟨#HG, ⟨HF, Hc, Ha⟩, HO⟩
    iapply (tri_use h1)
    isplitr; · iexact HG
    isplitl [HF HO]
    · isplitl [HF] <;> iassumption
    iintro ⟨⟨⟨Ho, Hs⟩, Hv⟩, HO⟩
    iapply (tri_last h2)
    isplitr; · iexact HG
    isplitl [Hc Ha HO]
    · isplitl [Hc]; · iexact Hc
      isplitl [Ha] <;> iassumption
    iintro ⟨Hp, Ha, HO⟩
    isplitr [HO]
    · isplitl [Hs Hv Hp]
      · isplitr [Hv]
        · iapply e
          isplitl [Hs]; · iexact Hs
          iapply (show famPay m c 2 (fi n) ⊢ iprop(∃ f, SW fullShare.right c (par (fi n)) f) from Entails.refl _) $$ Hp
        iexact Hv
      isplitl [Ho] <;> iassumption
    iexact HO

/-- The arrival of the x partner's piece waited for, and the sum. -/
theorem tri_sum (j : Fin 16) (k n : ℕ) : Tri m K c
    iprop((cr c 1 j ∗ at0 c 1 j) ∗ (∃ f, ⌜(xslot (par j)).view.read (Elt F) f = T m c j⌝ ∗ BW c (par j) f) ∗ (∃ f, SW fullShare c (par j) f) ∗ Ow c (ow 3 (yp c) k n))
    (pSum j)
    iprop((∃ f, BW c (par j) f) ∗ (∃ f, RW c j f) ∗ (∃ f, ⌜(sslot (par j)).view.read (Elt F) f = S m c j⌝ ∗ SW fullShare c (par j) f) ∗ at1 c 1 j ∗ Ow c (ow 3 (yp c) k n)) := by
  have h1 := tri_wait (m := m) (K := K) (c := c) 1 j (src := xsrc j) (dst := rrow j)
      (hsrc := (View.wordExact_bits rfl).reshape _ _) (hdst := View.wordExact_bits rfl) rfl (ow 3 (yp c) k n)
      (mayWait_ow c (.dma (fS 1 j)) (by rw [lvS_fS]; decide) k n)
  have h2 := tri_add (m := m) (K := K) (c := c) j
  unfold Tri pSum
  iintro ⟨#HG, ⟨Hc, Ha⟩, Hx, Hs, HO⟩
  iapply (tri_use h1)
  isplitr; · iexact HG
  isplitl [Hc Ha HO]
  · isplitl [Hc]; · iexact Hc
    isplitl [Ha] <;> iassumption
  iintro ⟨Hr, Ha, HO⟩
  iapply (tri_last h2)
  isplitr; · iexact HG
  isplitl [Hx Hr Hs]
  · isplitl [Hx]; · iexact Hx
    isplitl [Hr]; · iapply (show famPay m c 1 j ⊢ iprop(∃ f, ⌜(rrow j).view.read (Elt F) f = T m (xp c) j⌝ ∗ RW c j f) from Entails.refl _) $$ Hr
    iexact Hs
  iintro ⟨Hx, Hr, Hs⟩
  isplitl [Hx]; · iexact Hx
  isplitl [Hr]; · iexact Hr
  isplitl [Hs]; · iexact Hs
  isplitl [Ha] <;> iassumption

/-- The chunks from `n` on (`k` of them) still to do. -/
def IC (m : (ℓ : Loc nD τ sig) → Buf (Elt F) ℓ) (c : Dev nD) (k n : ℕ) : sProp (MT nD τ sig Unit (Elt F) ℕ UU ℕ) :=
  iprop(XB m c k n ∗ XF c (par (fi (n + 1))) ∗ SB m c n ∗ SB m c (n + 1) ∗ dn (fun n => XW m fullShare.right c (fi n)) (k - 1) (n + 1)
    ∗ dn (fun n => C0 c (fi n)) k n ∗ dn (fun n => iprop(∃ f, OW (yp c) c (fi n) f)) k n
    ∗ up (fun n => Dn m c (fi n)) n ∗ up (Gd2 m c) n ∗ Ow c (ow 3 (yp c) k n))

theorem tri_chunk (k n : ℕ) (hn : k + 1 + n = 16) : Tri m K c (IC m c (k + 1) n) (pChunk c n) (IC m c k (n + 1)) := by
  have h1 := tri_next (m := m) (K := K) (c := c) k n hn
  have h2 := tri_waitLocal (m := m) (K := K) (c := c) (ldS (par (fi n))) (lvS_ldS _) (src := xsrc (fi n)) (dst := xslot (par (fi n)))
      (hsrc := (View.wordExact_bits rfl).reshape _ _) (hdst := (View.wordExact_bits rfl).reshape _ _) rfl (k + 1) n
      iprop((∃ f, ⌜(xslot (par (fi n))).view.read (Elt F) f = T m c (fi n)⌝ ∗ BW c (par (fi n)) f) ∗ XW m fullShare.right c (fi n))
  have h3 := tri_free (m := m) (K := K) (c := c) (k + 1) n n
  have h4 := tri_sum (m := m) (K := K) (c := c) (fi n) (k + 1) n
  have h5 := tri_store (m := m) (K := K) (c := c) (fi n)
  have h6 := tri_sendY (m := m) (K := K) (c := c) (fi n) (ow 3 (yp c) k (n + 1)) (ow 3 (yp c) (k + 1) n) rfl
  have e := slot_split (m := m) (c := c) (par (fi n)) (fi n)
  unfold Tri pChunk IC
  simp only [dn, up, show XB m c (k + 1) n = LF m c (fi n) from rfl, Nat.add_sub_cancel]
  iintro ⟨#HG, HLF, HXF, HSB, HSB1, HdX, ⟨HC, HdC⟩, ⟨HY, HdY⟩, HuD, HuG, HO⟩
  iapply (tri_use h1)
  isplitr; · iexact HG
  isplitl [HXF HdX]
  · isplitl [HXF] <;> iassumption
  iintro ⟨HXB, HdX⟩
  iapply (tri_use h2)
  isplitr; · iexact HG
  isplitl [HLF HO]
  · unfold LF
    isplitl [HLF] <;> iassumption
  iintro ⟨⟨⟨Hx, HXr⟩, Hv⟩, HO⟩
  iapply (tri_use h3)
  isplitr; · iexact HG
  isplitl [HSB HO]
  · isplitl [HSB] <;> iassumption
  unfold FS C0
  icases HC with ⟨Hc1, Ho, Ht, Ha2⟩
  iintro ⟨⟨⟨Hs, Hvs⟩, HGd⟩, HO⟩
  iapply (tri_use h4)
  isplitr; · iexact HG
  isplitl [Hc1 Hx Hs HO]
  · isplitl [Hc1]; · iexact Hc1
    isplitl [Hx]; · iexact Hx
    isplitl [Hs] <;> iassumption
  iintro ⟨Hx, Hr, Hs, Ha1, HO⟩
  ihave Hs' := e $$ Hs
  icases Hs' with ⟨Hs1, Hs2⟩
  iapply (tri_use h5)
  isplitr; · iexact HG
  isplitl [Hs1 Hvs Ho]
  · isplitr [Ho]
    · isplitl [Hs1] <;> iassumption
    iexact Ho
  iintro HSF
  iapply (tri_last h6)
  isplitr; · iexact HG
  isplitl [Hs2 HY Ht HO]
  · isplitr [HO]
    · isplitl [Hs2]; · iexact Hs2
      isplitl [HY] <;> iassumption
    iexact HO
  iintro ⟨Hc2, HO⟩
  isplitl [HXB]; · iexact HXB
  isplitl [Hx Hv]
  · rw [show n + 1 + 1 = n + 2 from rfl, par_add]
    unfold XF
    isplitl [Hx] <;> iassumption
  isplitl [HSB1]; · iexact HSB1
  isplitl [HSF Hc2 Ha2]
  · rw [show n + 1 + 1 = n + 2 from rfl]
    unfold SB
    isplitl [HSF]; · iexact HSF
    isplitl [Hc2] <;> iassumption
  isplitl [HdX]; · iexact HdX
  isplitl [HdC]; · iexact HdC
  isplitl [HdY]; · iexact HdY
  isplitl [HuD HXr Hr Ha1]
  · isplitl [HuD]; · iexact HuD
    unfold Dn
    isplitl [HXr]; · iexact HXr
    isplitl [Hr] <;> iassumption
  isplitl [HuG HGd]
  · isplitl [HuG] <;> iassumption
  iexact HO

/-! ## The last waits -/

omit [FloatOps F] in
theorem mayWait_zero (q : SemLoc sig) (d : Dev nD) (n : ℕ) : (levAts L lv : sProp (MT nD τ sig Unit (Elt F) ℕ UU ℕ)) ⊢ MayWait (c : Thread nD τ) q () (ow 3 d 0 n) :=
  mayWait_of c _ _ fun g u hg => absurd hg (Nat.lt_irrefl 0)

/-- Sixteen waits at one family. -/
theorem tri_waitAll (a : Fin 4) (f : ℕ → Prog (TpuEff nD τ sig (Elt F) Λ₀ .tc) PUnit)
    (h : ∀ n, Tri m K c iprop(cr c a (fi n) ∗ at0 c a (fi n) ∗ Ow c (ow 3 (yp c) 0 16)) (f n) iprop(famPay m c a (fi n) ∗ at1 c a (fi n) ∗ Ow c (ow 3 (yp c) 0 16))) :
    Tri m K c iprop(dn (fun n => cr c a (fi n)) 16 0 ∗ dn (fun n => at0 c a (fi n)) 16 0 ∗ Ow c (ow 3 (yp c) 0 16)) (Cert.Run.seq f 16 0)
      iprop(up (fun n => iprop(famPay m c a (fi n) ∗ at1 c a (fi n))) 16 ∗ Ow c (ow 3 (yp c) 0 16)) := by
  refine ((Tri.loop (m := m) (K := K) (c := c) (fun k n => iprop((dn (fun n => cr c a (fi n)) k n ∗ dn (fun n => at0 c a (fi n)) k n
    ∗ up (fun n => iprop(famPay m c a (fi n) ∗ at1 c a (fi n))) n) ∗ Ow c (ow 3 (yp c) 0 16))) (B := 16) ?_ 16 0 rfl).pre ?_).post ?_
  · intro k n hn
    have h' := h n
    unfold Tri
    simp only [dn, up]
    iintro ⟨#HG, ⟨⟨Hc, Hdc⟩, ⟨Ha, Hda⟩, Hu⟩, HO⟩
    iapply (tri_last h')
    isplitr; · iexact HG
    isplitl [Hc Ha HO]
    · isplitl [Hc]; · iexact Hc
      isplitl [Ha] <;> iassumption
    iintro ⟨Hp, Ha, HO⟩
    isplitr [HO]
    · isplitl [Hdc]; · iexact Hdc
      isplitl [Hda]; · iexact Hda
      isplitl [Hu]; · iexact Hu
      isplitl [Hp] <;> iassumption
    iexact HO
  · iintro ⟨H1, H2, H3⟩
    isplitr [H3]
    · isplitl [H1]; · iexact H1
      isplitl [H2]; · iexact H2
      simp only [up]; iempintro
    iexact H3
  · iintro ⟨⟨-, -, H⟩, HO⟩
    isplitl [H] <;> iassumption

/-! ## The whole body -/

/-- What the device starts from: its ghost state at the cells, the buffers in their windows, the slots free. -/
def Pre (m : (ℓ : Loc nD τ sig) → Buf (Elt F) ℓ) (c : Dev nD) : sProp (MT nD τ sig Unit (Elt F) ℕ UU ℕ) :=
  iprop((cred (tallyAt (bar c) () 2) ∗ atPos ER (bar c) 0 ∅ 0 ∗ dutyTok ER (bar (xp c)) 0 false ∗ dutyTok ER (bar (yp c)) 0 true ∗ barX (xp c) ∗ barY (yp c) ∗ Ow c (O₀ c))
    ∗ (bigSep Finset.univ fun j => A1 m c j) ∗ (bigSep Finset.univ fun j => XW m fullShare.right c j) ∗ (bigSep Finset.univ fun j => C0 c j)
    ∗ (bigSep Finset.univ fun j => at0 c 0 j) ∗ (bigSep Finset.univ fun j => cr c 3 j) ∗ (bigSep Finset.univ fun j => at0 c 3 j)
    ∗ (XF c 0 ∗ XF c 1) ∗ (FS c 0 ∗ FS c 1))

/-- What it ends with. -/
def Post (m : (ℓ : Loc nD τ sig) → Buf (Elt F) ℓ) (c : Dev nD) : sProp (MT nD τ sig Unit (Elt F) ℕ UU ℕ) :=
  iprop((atPos ER (bar c) (0 + 1) ∅ 0 ∗ Ow c 0)
    ∗ (bigSep Finset.univ fun j => iprop(famPay m c 0 j ∗ at1 c 0 j)) ∗ (bigSep Finset.univ fun j => Dn m c j) ∗ (bigSep Finset.univ fun j => Gd m c j)
    ∗ (bigSep Finset.univ fun j => iprop(famPay m c 3 j ∗ at1 c 3 j)) ∗ (XF c 0 ∗ XF c 1) ∗ (FS c 0 ∗ FS c 1))

theorem up_Gd2 : ∀ n, up (Gd2 m c) (n + 2) ⊢ up (fun n => Gd m c (fi n)) n
  | 0 => by
    simp only [up, Gd2]
    iintro ⟨-, -⟩
    iempintro
  | n + 1 => by
    show iprop(up (Gd2 m c) (n + 2) ∗ Gd m c (fi n)) ⊢ iprop(up (fun n => Gd m c (fi n)) n ∗ Gd m c (fi n))
    exact sep_mono_left (up_Gd2 n)

theorem tri_main : Tri m K c (Pre m c) (pMain c) (Post m c) := by
  have h1 := tri_hand (m := m) (K := K) (c := c)
  have h2 := tri_sendAll (m := m) (K := K) (c := c)
  have h3 := tri_load (m := m) (K := K) (c := c) 0
  have h4 := Tri.loop (m := m) (K := K) (c := c) (f := pChunk c) (IC m c) (B := 16) tri_chunk 16 0 rfl
  have h5 := tri_free (m := m) (K := K) (c := c) 0 16 16
  have h6 := tri_free (m := m) (K := K) (c := c) 0 16 17
  have h7 := tri_waitAll (m := m) (K := K) (c := c) 0 (fun n => pSentX (fi n)) fun n => tri_wait 0 (fi n) (src := rrow (fi n)) (dst := xsrc (fi n))
    (hsrc := View.wordExact_bits rfl) (hdst := (View.wordExact_bits rfl).reshape _ _) rfl _ (mayWait_zero _ _ _)
  have h8 := tri_waitAll (m := m) (K := K) (c := c) 3 (fun n => pRecvY c (fi n)) fun n => tri_wait 3 (fi n) (src := sslot (par (fi n))) (dst := orow c (fi n))
    (hsrc := (View.wordExact_bits rfl).reshape _ _) (hdst := View.wordExact_bits rfl) rfl _ (mayWait_zero _ _ _)
  have eG : iprop((up (Gd2 m c) 16 ∗ Gd2 m c 16) ∗ Gd2 m c 17) ⊢ up (fun n => Gd m c (fi n)) 16 := up_Gd2 (m := m) (c := c) 16
  unfold Tri pMain Pre Post
  rw [dn_all (fun j => A1 m c j), dn_all (fun j => XW m fullShare.right c j), dn_all (fun j => C0 c j), dn_all (fun j => at0 c 0 j), dn_all (fun j => cr c 3 j), dn_all (fun j => at0 c 3 j),
    up_all (fun j => iprop(famPay m c 0 j ∗ at1 c 0 j)), up_all (fun j => Dn m c j), up_all (fun j => Gd m c j), up_all (fun j => iprop(famPay m c 3 j ∗ at1 c 3 j))]
  iintro ⟨#HG, Hb, HA, HX, HC, Ha0, Hc3, Ha3, ⟨HX0, HX1⟩, HS0, HS1⟩
  iapply (tri_use h1)
  isplitr; · iexact HG
  isplitl [Hb]; · iexact Hb
  iintro ⟨HbX, HbY, Hat, HO⟩
  iapply (tri_use h2)
  isplitr; · iexact HG
  isplitl [HA HbX HO]
  · isplitl [HA]; · iexact HA
    isplitl [HbX] <;> iassumption
  iintro ⟨Hc0, HO⟩
  ihave HX' := (Entails.of_eq (show dn (fun n => XW m fullShare.right c (fi n)) 16 0 = iprop(XW m fullShare.right c (fi 0) ∗ dn (fun n => XW m fullShare.right c (fi n)) 15 1) from rfl)) $$ HX
  icases HX' with ⟨Hx0, HX⟩
  iapply (tri_use h3)
  isplitr; · iexact HG
  isplitl [HX0 Hx0]
  · isplitl [HX0]; · iexact HX0
    iexact Hx0
  iintro HL
  ihave HbY' := (Entails.of_eq (show barY c = dn (fun n => iprop(∃ f, OW (yp c) c (fi n) f)) 16 0 from dn_all fun j => iprop(∃ f, OW (yp c) c j f))) $$ HbY
  iapply (tri_use h4)
  isplitr; · iexact HG
  isplitl [HL HX1 HS0 HS1 HX HC HbY' HO]
  · unfold IC
    isplitl [HL]; · iapply (show LF m c 0 ⊢ XB m c 16 0 from Entails.refl _) $$ HL
    isplitl [HX1]; · iexact HX1
    isplitl [HS0]; · iapply (show FS c 0 ⊢ SB m c 0 from Entails.refl _) $$ HS0
    isplitl [HS1]; · iapply (show FS c 1 ⊢ SB m c (0 + 1) from Entails.refl _) $$ HS1
    isplitl [HX]; · iexact HX
    isplitl [HC]; · iexact HC
    isplitl [HbY']; · iexact HbY'
    isplitr; · simp only [up]; iempintro
    isplitr; · simp only [up]; iempintro
    iexact HO
  unfold IC
  iintro ⟨HX0, HX1, HS0, HS1, -, -, -, HuD, HuG, HO⟩
  iapply (tri_use h5)
  isplitr; · iexact HG
  isplitl [HS0 HO]
  · isplitl [HS0] <;> iassumption
  iintro ⟨⟨HF0, HG0⟩, HO⟩
  iapply (tri_use h6)
  isplitr; · iexact HG
  isplitl [HS1 HO]
  · isplitl [HS1] <;> iassumption
  iintro ⟨⟨HF1, HG1⟩, HO⟩
  iapply (tri_use h7)
  isplitr; · iexact HG
  isplitl [Hc0 Ha0 HO]
  · isplitl [Hc0]
    · iapply (Entails.of_eq ((up_all fun j => cr c 0 j).symm.trans (dn_all fun j => cr c 0 j))); iexact Hc0
    isplitl [Ha0] <;> iassumption
  iintro ⟨Hp0, HO⟩
  iapply (tri_last h8)
  isplitr; · iexact HG
  isplitl [Hc3 Ha3 HO]
  · isplitl [Hc3]; · iexact Hc3
    isplitl [Ha3] <;> iassumption
  iintro ⟨Hp3, HO⟩
  isplitl [Hat HO]
  · isplitl [Hat]; · iexact Hat
    iexact HO
  isplitl [Hp0]; · iexact Hp0
  isplitl [HuD]; · iexact HuD
  isplitl [HuG HG0 HG1]
  · iapply eG
    isplitl [HuG HG0]
    · isplitl [HuG] <;> iassumption
    iexact HG1
  isplitl [Hp3]; · iexact Hp3
  isplitl [HX0 HX1]
  · isplitl [HX0]; · iapply (show XB m c 0 16 ⊢ XF c 0 from Entails.refl _) $$ HX0
    iexact HX1
  isplitl [HF0]; · iexact HF0
  iexact HF1

end Cert.Run

end
-- ==== Proof.Windows.lean ====
/-
# The buffers cut in their windows and joined again

Every family of windows is cut by a key read off an index: its row block and, of the result, its column half.
-/
module

public import proofs.«01_k».proof.Proof.Body
public import Idealize.ShloMosaic.Lib.Pipeline.Launch
public import Idealize.ShloMosaic.Lib.Pipeline.Kit
public import Idealize.ShloMosaic.Lib.Tactic
public import Idealize.ShloMosaic.Lib.Pipeline.Value
public import Idealize.ShloMosaic.Lib.Ring

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

/-! ## Families cut by a key -/

section Keyed
variable {α B : Type} [Fintype α] [DecidableEq α] [Fintype B] [DecidableEq B] {I : B → Finset α} {k : α → B} (h : ∀ b i, i ∈ I b ↔ k i = b)
include h
theorem keyed_disj (b b' : B) (hb : b ≠ b') : Disjoint (I b) (I b') :=
  Finset.disjoint_left.2 fun i hi hi' => hb (((h b i).1 hi).symm.trans ((h b' i).1 hi'))
theorem keyed_cover : Finset.univ.biUnion I = Finset.univ :=
  Finset.eq_univ_iff_forall.2 fun i => Finset.mem_biUnion.2 ⟨k i, Finset.mem_univ _, (h _ i).2 rfl⟩
end Keyed

/-- The row block of an index, of 4096 rows. -/
abbrev rowOf (r : Fin 4096) : Fin 16 := ⟨r.val / 256, by omega⟩

theorem xkey (j : Fin 16) (i : S1x4096x2048.Idx) : i ∈ (xsrc j).view.set ↔ rowOf (i 1) = j := by
  rw [show (xsrc j).view.set = (xrect j).set from (View.set_reshape _ _).trans (View.set_slice_whole _ _), Rect.mem_set_unit]
  have h0 : (i 0).val < 1 := (i 0).2
  have h2 : (i 2).val < 2048 := (i 2).2
  constructor
  · intro h
    have h1 := h 1
    refine Fin.ext ?_
    show (i 1).val / 256 = j.val
    have : 256 * j.val ≤ (i 1).val ∧ (i 1).val < 256 * j.val + 256 := h1
    omega
  · intro h
    have h' : (i 1).val / 256 = j.val := congrArg Fin.val h
    intro a
    fin_cases a
    · show 0 ≤ (i 0).val ∧ (i 0).val < 0 + 1; omega
    · show 256 * j.val ≤ (i 1).val ∧ (i 1).val < 256 * j.val + 256; omega
    · show 0 ≤ (i 2).val ∧ (i 2).val < 0 + 2048; omega

theorem rkey (j : Fin 16) (i : S4096x2048.Idx) : i ∈ (rrow j).view.set ↔ rowOf (i 0) = j := by
  rw [show (rrow j).view.set = (rrect j).set from View.set_slice_whole _ _, Rect.mem_set_unit]
  have h2 : (i 1).val < 2048 := (i 1).2
  constructor
  · intro h
    refine Fin.ext ?_
    show (i 0).val / 256 = j.val
    have : 256 * j.val ≤ (i 0).val ∧ (i 0).val < 256 * j.val + 256 := h 0
    omega
  · intro h
    have h' : (i 0).val / 256 = j.val := congrArg Fin.val h
    intro a
    fin_cases a
    · show 256 * j.val ≤ (i 0).val ∧ (i 0).val < 256 * j.val + 256; omega
    · show 0 ≤ (i 1).val ∧ (i 1).val < 0 + 2048; omega

theorem srect_key (s : Fin 2) (i : S2x256x2048.Idx) : i ∈ (srect s).set ↔ (show Fin 2 from i 0) = s := by
  rw [Rect.mem_set_unit]
  have h1 : (i 1).val < 256 := (i 1).2
  have h2 : (i 2).val < 2048 := (i 2).2
  constructor
  · intro h
    refine Fin.ext ?_
    show (i 0).val = s.val
    have : s.val ≤ (i 0).val ∧ (i 0).val < s.val + 1 := h 0
    omega
  · intro h
    have h' : (i 0).val = s.val := congrArg Fin.val h
    intro a
    fin_cases a
    · show s.val ≤ (i 0).val ∧ (i 0).val < s.val + 1; omega
    · show 0 ≤ (i 1).val ∧ (i 1).val < 0 + 256; omega
    · show 0 ≤ (i 2).val ∧ (i 2).val < 0 + 2048; omega
theorem xskey (s : Fin 2) (i : S2x256x2048.Idx) : i ∈ (xslot s).view.set ↔ (show Fin 2 from i 0) = s := by
  rw [show (xslot s).view.set = (srect s).set from (View.set_reshape _ _).trans (View.set_slice_whole _ _), srect_key]
theorem sskey (s : Fin 2) (i : S2x256x2048.Idx) : i ∈ (sslot s).view.set ↔ (show Fin 2 from i 0) = s := by
  rw [show (sslot s).view.set = (srect s).set from (View.set_reshape _ _).trans (View.set_slice_whole _ _), srect_key]

/-- The device whose column half a flag names: the device itself, or its y partner. -/
def half (c : Dev nD) (b : Bool) : Dev nD := if b then yp c else c

theorem okey (c : Dev nD) (b : Bool × Fin 16) (i : S4096x4096.Idx) :
    i ∈ (orow (half c b.1) b.2).view.set ↔ (decide ((i 1).val / 2048 ≠ c.val % 2), rowOf (i 0)) = b := by
  obtain ⟨b, j⟩ := b
  have hh : (half c b).val % 2 = if b then 1 - c.val % 2 else c.val % 2 := by
    cases b
    · rfl
    · exact yp_col c
  rw [show (orow (half c b) j).view.set = (orect (half c b) j).set from View.set_slice_whole _ _, Rect.mem_set_unit, offs_eq]
  have h1 : (i 1).val < 4096 := (i 1).2
  constructor
  · intro h
    have h0 : 256 * j.val ≤ (i 0).val ∧ (i 0).val < 256 * j.val + 256 := h 0
    have h1 : 2048 * ((half c b).val % 2) ≤ (i 1).val ∧ (i 1).val < 2048 * ((half c b).val % 2) + 2048 := h 1
    refine Prod.ext ?_ (Fin.ext (show (i 0).val / 256 = j.val by omega))
    show decide ((i 1).val / 2048 ≠ c.val % 2) = b
    rw [hh] at h1
    cases b
    · have h1 : 2048 * (c.val % 2) ≤ (i 1).val ∧ (i 1).val < 2048 * (c.val % 2) + 2048 := h1
      exact decide_eq_false (by omega)
    · have h1 : 2048 * (1 - c.val % 2) ≤ (i 1).val ∧ (i 1).val < 2048 * (1 - c.val % 2) + 2048 := h1
      exact decide_eq_true (by omega)
  · intro h
    have hj : (i 0).val / 256 = j.val := congrArg (fun p : Bool × Fin 16 => p.2.val) h
    have hb : decide ((i 1).val / 2048 ≠ c.val % 2) = b := congrArg Prod.fst h
    intro a
    fin_cases a
    · show 256 * j.val ≤ (i 0).val ∧ (i 0).val < 256 * j.val + 256; omega
    · show 2048 * ((half c b).val % 2) ≤ (i 1).val ∧ (i 1).val < 2048 * ((half c b).val % 2) + 2048
      rw [hh]
      cases b
      · have := of_decide_eq_false hb
        show 2048 * (c.val % 2) ≤ (i 1).val ∧ (i 1).val < 2048 * (c.val % 2) + 2048
        omega
      · have := of_decide_eq_true hb
        show 2048 * (1 - c.val % 2) ≤ (i 1).val ∧ (i 1).val < 2048 * (1 - c.val % 2) + 2048
        omega

/-! ## Cutting and joining -/

variable (m : (ℓ : Loc nD τ sig) → Buf (Elt F) ℓ) (c : Dev nD)

omit [FloatOps F] in
/-- The block of `x` held whole is its pieces' left and right shares. -/
theorem x_cut : (xl c ↦{fullShare} m (xl c) : sProp 𝕄)
    ⊣⊢ iprop((bigSep Finset.univ fun j => XW m fullShare.left c j) ∗ bigSep Finset.univ fun j => XW m fullShare.right c j) := by
  unfold XW
  rw [← Ring.pointsTo_blocks (ℓ := xl c) (fun j => (xsrc j).view.set) (keyed_disj xkey) (keyed_cover xkey),
    ← Ring.pointsTo_blocks (ℓ := xl c) (fun j => (xsrc j).view.set) (keyed_disj xkey) (keyed_cover xkey)]
  exact pointsTo_share (PosShare.mem_left_op_right fullShare)

omit [FloatOps F] in
/-- A known content is some content. -/
theorem hide {A : Type} {Φ : A → sProp 𝕄} (f : A) : Φ f ⊢ iprop(∃ f, Φ f) := by
  iintro H; iexists f; iexact H

omit [FloatOps F] in
/-- The landing buffer is its rows. -/
theorem r_cut : iprop(∃ f : Buf (Elt F) (rl c), rl c ↦{fullShare} f) ⊢ (bigSep Finset.univ fun j => iprop(∃ f, RW c j f) : sProp 𝕄) := by
  unfold RW
  iintro ⟨%f, H⟩
  iapply (show (rl c ↦{fullShare} f : sProp 𝕄) ⊢ bigSep Finset.univ fun j => iprop(∃ f, rl c ↦[(rrow j).view.set]{fullShare} f) from by
    rw [Ring.pointsTo_blocks (ℓ := rl c) (fun j => (rrow j).view.set) (keyed_disj rkey) (keyed_cover rkey)]
    exact bigSep_mono fun j _ => hide (Φ := fun f => (rl c ↦[(rrow j).view.set]{fullShare} f : sProp 𝕄)) f)
  iexact H
omit [FloatOps F] in
theorem r_join [Nonempty (Buf (Elt F) (rl c))] : (bigSep Finset.univ fun j => iprop(∃ f, RW c j f) : sProp 𝕄) ⊢ iprop(∃ f : Buf (Elt F) (rl c), rl c ↦{fullShare} f) := by
  unfold RW
  exact Ring.pointsTo_blocks_join_exists (ℓ := rl c) (fun j => (rrow j).view.set) (keyed_disj rkey) (keyed_cover rkey) (Classical.arbitrary _)

omit [FloatOps F] in
theorem bigSep_two (Φ : Fin 2 → sProp 𝕄) : bigSep Finset.univ Φ = iprop(Φ 0 ∗ Φ 1) := bigSep_univ_eq_bigSepL [0, 1] (by decide) (by decide) Φ
omit [FloatOps F] in
theorem bigSep_bool (Φ : Bool → sProp 𝕄) : bigSep Finset.univ Φ = iprop(Φ false ∗ Φ true) := bigSep_univ_eq_bigSepL [false, true] (by decide) (by decide) Φ

omit [FloatOps F] in
/-- The buffer of loaded pieces is its slots. -/
theorem b_cut : iprop(∃ f : Buf (Elt F) (bl c), bl c ↦{fullShare} f) ⊢ (iprop((∃ f, BW c 0 f) ∗ ∃ f, BW c 1 f) : sProp 𝕄) := by
  unfold BW
  iintro ⟨%f, H⟩
  ihave H' := (Entails.of_eq ((Ring.pointsTo_blocks (ℓ := bl c) (fun s => (xslot s).view.set) (keyed_disj xskey) (keyed_cover xskey) f).trans (bigSep_two _))) $$ H
  icases H' with ⟨H1, H2⟩
  isplitl [H1] <;> iexists f <;> iassumption
omit [FloatOps F] in
theorem b_join [Nonempty (Buf (Elt F) (bl c))] : (iprop((∃ f, BW c 0 f) ∗ ∃ f, BW c 1 f) : sProp 𝕄) ⊢ iprop(∃ f : Buf (Elt F) (bl c), bl c ↦{fullShare} f) := by
  unfold BW
  rw [← bigSep_two fun s => iprop(∃ f, bl c ↦[(xslot s).view.set]{fullShare} f)]
  exact Ring.pointsTo_blocks_join_exists (ℓ := bl c) (fun s => (xslot s).view.set) (keyed_disj xskey) (keyed_cover xskey) (Classical.arbitrary _)

omit [FloatOps F] in
/-- The buffer of sums is its slots. -/
theorem s_cut : iprop(∃ f : Buf (Elt F) (sl c), sl c ↦{fullShare} f) ⊢ (iprop((∃ f, SW fullShare c 0 f) ∗ ∃ f, SW fullShare c 1 f) : sProp 𝕄) := by
  unfold SW
  iintro ⟨%f, H⟩
  ihave H' := (Entails.of_eq ((Ring.pointsTo_blocks (ℓ := sl c) (fun s => (sslot s).view.set) (keyed_disj sskey) (keyed_cover sskey) f).trans (bigSep_two _))) $$ H
  icases H' with ⟨H1, H2⟩
  isplitl [H1] <;> iexists f <;> iassumption
omit [FloatOps F] in
theorem s_join [Nonempty (Buf (Elt F) (sl c))] : (iprop((∃ f, SW fullShare c 0 f) ∗ ∃ f, SW fullShare c 1 f) : sProp 𝕄) ⊢ iprop(∃ f : Buf (Elt F) (sl c), sl c ↦{fullShare} f) := by
  unfold SW
  rw [← bigSep_two fun s => iprop(∃ f, sl c ↦[(sslot s).view.set]{fullShare} f)]
  exact Ring.pointsTo_blocks_join_exists (ℓ := sl c) (fun s => (sslot s).view.set) (keyed_disj sskey) (keyed_cover sskey) (Classical.arbitrary _)

omit [FloatOps F] in
/-- The result is its pieces over the device's own column half and its pieces over its y partner's. -/
theorem o_cut (f : Buf (Elt F) (ol c)) : (ol c ↦{fullShare} f : sProp 𝕄)
    ⊢ iprop((bigSep Finset.univ fun j => iprop(∃ f, OW c c j f)) ∗ bigSep Finset.univ fun j => iprop(∃ f, OW c (yp c) j f)) := by
  rw [Ring.pointsTo_blocks (ℓ := ol c) (fun b : Bool × Fin 16 => (orow (half c b.1) b.2).view.set) (keyed_disj (okey c)) (keyed_cover (okey c)), bigSep_univ_prod, bigSep_bool]
  unfold OW
  exact BI.sep_mono (bigSep_mono fun j _ => hide (Φ := fun f => (ol c ↦[(orow c j).view.set]{fullShare} f : sProp 𝕄)) f)
    (bigSep_mono fun j _ => hide (Φ := fun f => (ol c ↦[(orow (yp c) j).view.set]{fullShare} f : sProp 𝕄)) f)

/-- What device `c`'s result holds at the end: its own sums over its column half, its y partner's over the other. -/
def Fin_ (g : Buf (Elt F) (ol c)) : Prop :=
  ∀ (b : Bool) (j : Fin 16), (orow (half c b) j).view.read (Elt F) g = S m (half c b) j

/-- The pieces holding the sums join to the result holding them all. -/
theorem o_join [Nonempty (Buf (Elt F) (ol c))] : iprop((bigSep Finset.univ fun j => iprop(∃ f, ⌜(orow c j).view.read (Elt F) f = S m c j⌝ ∗ OW c c j f))
      ∗ bigSep Finset.univ fun j => iprop(∃ f, ⌜(orow (yp c) j).view.read (Elt F) f = S m (yp c) j⌝ ∗ OW c (yp c) j f))
    ⊢ (iprop(∃ g, ⌜Fin_ m c g⌝ ∗ ol c ↦{fullShare} g) : sProp 𝕄) := by
  have e : iprop((bigSep Finset.univ fun j => iprop(∃ f, ⌜(orow c j).view.read (Elt F) f = S m c j⌝ ∗ OW c c j f))
      ∗ bigSep Finset.univ fun j => iprop(∃ f, ⌜(orow (yp c) j).view.read (Elt F) f = S m (yp c) j⌝ ∗ OW c (yp c) j f))
      = (bigSep Finset.univ fun b : Bool × Fin 16 => iprop(∃ f, ⌜(orow (half c b.1) b.2).view.read (Elt F) f = S m (half c b.1) b.2⌝
          ∗ ol c ↦[(orow (half c b.1) b.2).view.set]{fullShare} f) : sProp 𝕄) := by
    rw [bigSep_univ_prod, bigSep_bool]; rfl
  rw [e]
  refine (BI.bigSep_exists_pi Finset.univ (fun (b : Bool × Fin 16) (f : Buf (Elt F) (ol c)) => (iprop(⌜(orow (half c b.1) b.2).view.read (Elt F) f = S m (half c b.1) b.2⌝
          ∗ ol c ↦[(orow (half c b.1) b.2).view.set]{fullShare} f) : sProp 𝕄))).trans ?_
  iintro ⟨%fs, H⟩
  ihave H1 := (BI.bigSep_pure_sep Finset.univ (fun b : Bool × Fin 16 => (orow (half c b.1) b.2).view.read (Elt F) (fs b) = S m (half c b.1) b.2)
    (fun b => (ol c ↦[(orow (half c b.1) b.2).view.set]{fullShare} fs b : sProp 𝕄))) $$ H
  icases H1 with ⟨%hp, H⟩
  ihave H' := (pointsTo_biUnion_join Finset.univ (fun b : Bool × Fin 16 => (orow (half c b.1) b.2).view.set) fs (Classical.arbitrary _)
    (fun b _ b' _ h => keyed_disj (okey c) b b' h)) $$ H
  rw [keyed_cover (okey c)]
  icases H' with ⟨%g, %hg, H⟩
  iexists g
  isplitr
  · ipureintro
    intro b j
    rw [← hp (b, j) (Finset.mem_univ _)]
    exact View.read_congr fun i hi => hg (b, j) (Finset.mem_univ _) i hi
  iexact H

end Cert.Run

end
-- ==== Proof.BodyEq.lean ====
module

public import proofs.«01_k».proof.Proof.Vocab
public import Idealize.ShloMosaic.Lib.Pipeline.Launch
public import Idealize.ShloMosaic.Lib.Pipeline.Kit
public import Idealize.ShloMosaic.Lib.Tactic

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxRecDepth 100000 in
set_option maxHeartbeats 4000000 in
/-- The printed body is the sequence over the chunks. -/
theorem body_eq : cc0_body (F := F) (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 = pBody := by
  have hR : (pBody : Prog (TpuEff nD τ sig (Elt F) Λ₀ .tc) PUnit) = pBody := rfl
  conv at hR =>
    rhs
    simp only [pBody, pMain, pHand, seq, pSendX, pLoad, pNext, pGot, pStored, pSent, pFree, pSum, pStore, pSendY, pChunk, pSentX, pRecvY,
      Nat.reduceLT, Nat.reduceAdd, if_true, if_false, ↓reduceIte, semSignalWord, semWaitWord, Prog.lift, Prog.bind_op, Prog.bind_ret, Prog.pure_eq_ret]
  rw [hR]
  clear hR
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, Prog.lift, Prog.bind_op, Prog.bind_ret, Prog.pure_eq_ret, semSignalWord, semWaitWord]
  rfl

end Cert.Run
end
-- ==== Proof.Launch.lean ====
/-
# The launch: the ghost state dealt, the body's obligation, the run

At launch every device's cells get their invariants under one update, the duty tokens go to the devices that pay them, and every
device gets the credits of its waits. The run ends with every device's result holding its own sums over its column half and its y
partner's over the other, its block of `x` unchanged, and every semaphore at zero.
-/
module

public import proofs.«01_k».proof.Proof.Windows
public import proofs.«01_k».proof.Proof.BodyEq
public import Idealize.ShloMosaic.Lib.Pipeline.CollectiveSegs
public import Idealize.ShloMosaic.Lib.Pipeline.Launch
public import Idealize.ShloMosaic.Lib.Pipeline.Kit
public import Idealize.ShloMosaic.Lib.Tactic
public import Idealize.ShloMosaic.Lib.Pipeline.Value
public import Idealize.ShloMosaic.Lib.Ring

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The device's own semaphores -/

/-- The kernel's own semaphores: the four families, the loads' two, the stores' two. -/
abbrev OK : Type := (Fin 4 × Fin 16) ⊕ (Fin 2 ⊕ Fin 2)
def osem : OK → SemLoc sig
  | .inl p => .dma (fS p.1 p.2)
  | .inr (.inl s) => .dma (ldS s)
  | .inr (.inr s) => .dma (stS s)

/-- A semaphore's number. -/
def numOf : SemLoc sig → ℕ
  | .reg _ => 0
  | .dma q => q.val
theorem num_osem (k : OK) : numOf (osem k) = match k with | .inl p => 4 + (16 * p.1.val + p.2.val) | .inr (.inl s) => s.val | .inr (.inr s) => 2 + s.val := by
  rcases k with p | s | s
  · exact fS_val p.1 p.2
  · exact ldS_val s
  · exact stS_val s
theorem osem_injective : Function.Injective osem := fun k k' h => by
  have h' := congrArg numOf h
  rw [num_osem, num_osem] at h'
  rcases k with ⟨a, j⟩ | s | s <;> rcases k' with ⟨a', j'⟩ | s' | s' <;> simp only at h'
  · have h1 : a = a' := Fin.ext (by omega)
    have h2 : j = j' := Fin.ext (by omega)
    rw [h1, h2]
  all_goals first
    | exact absurd h' (by omega)
    | exact congrArg _ (congrArg _ (Fin.ext (by omega)))
theorem dma_scoped : ∀ q : DmaSem sig, (SemLoc.dma q : SemLoc sig).isScoped .tc = true := by decide
theorem ownSemFacts : Pipeline.OwnSemFacts cfg0.spec osem where
  isScoped k := by rcases k with p | s | s <;> exact dma_scoped _
  inj := osem_injective
  disj _ w := w.elim0

omit [FloatOps F] in
theorem bigSep_opt (Φ : Option (Fin 4 × Fin 16) → sProp 𝕄) : bigSep Finset.univ Φ = iprop(Φ none ∗ bigSep Finset.univ fun p => Φ (some p)) := by
  rw [bigSep_univ_at Φ none, show (Finset.univ.erase none : Finset (Option (Fin 4 × Fin 16))) = Finset.univ.map Function.Embedding.some from by
    ext k; cases k <;> simp, bigSep_map]
  rfl
omit [FloatOps F] in
theorem bigSep_sum (I J : Type) [Fintype I] [Fintype J] (Φ : I ⊕ J → sProp 𝕄) :
    bigSep Finset.univ Φ = iprop((bigSep Finset.univ fun a => Φ (.inl a)) ∗ bigSep Finset.univ fun b => Φ (.inr b)) := bigSep_univ_sum Φ
omit [FloatOps F] in
/-- Over the four families, family by family. -/
theorem bigSep_fam (Φ : Fin 4 × Fin 16 → sProp 𝕄) : bigSep Finset.univ Φ
    = iprop((bigSep Finset.univ fun j => Φ (0, j)) ∗ (bigSep Finset.univ fun j => Φ (1, j)) ∗ (bigSep Finset.univ fun j => Φ (2, j)) ∗ bigSep Finset.univ fun j => Φ (3, j)) := by
  rw [bigSep_univ_prod]; exact bigSep_univ_eq_bigSepL [0, 1, 2, 3] (by decide) (by decide) _

/-- The semaphores of the local transfers at zero. -/
def lds : sProp 𝕄 := iprop((semVal ((c : Thread nD τ), .dma (ldS 0)) 0 ∗ semVal ((c : Thread nD τ), .dma (ldS 1)) 0)
  ∗ (semVal ((c : Thread nD τ), .dma (stS 0)) 0 ∗ semVal ((c : Thread nD τ), .dma (stS 1)) 0))

omit [FloatOps F] in
theorem ownSems0_eq : (Pipeline.ownSems0 (Ix := Unit) (Name := ℕ) (U := UU) (Lvl := ℕ) (Val := Elt F) (τ := τ) osem c : sProp 𝕄)
    = iprop((bigSep Finset.univ fun p : Fin 4 × Fin 16 => semVal (cel c p.1 p.2) 0) ∗ lds c) := by
  unfold Pipeline.ownSems0 lds
  rw [bigSep_sum, bigSep_sum, bigSep_two, bigSep_two]; rfl
omit [FloatOps F] in
theorem unscopedSems0_eq : (unscopedSems0 c : sProp 𝕄) = semVal (bar c) 0 := by
  unfold unscopedSems0; rw [bigSep_eq_bigSepL_of_eq [SemLoc.reg barS] (by decide) (by decide)]; rfl

/-! ## The ghost state dealt -/

theorem kcell_injective : Function.Injective (kcell : Dev nD × Option (Fin 4 × Fin 16) → GSem nD τ sig) := by
  rintro ⟨c, k⟩ ⟨c', k'⟩ h
  have h1 : c = c' := congrArg (fun g : GSem nD τ sig => g.1.1) h
  have h2 : csem k = csem k' := congrArg Prod.snd h
  subst h1
  rcases k with _ | ⟨a, j⟩ <;> rcases k' with _ | ⟨a', j'⟩
  · rfl
  · exact absurd h2 (by intro h; cases h)
  · exact absurd h2 (by intro h; cases h)
  · have h3 : dec (fS a j) = dec (fS a' j') := congrArg dec (SemLoc.dma.inj h2)
    rw [dec_fS, dec_fS] at h3
    rw [h3]
def ringCells : Finset (GSem nD τ sig) := Finset.univ.map ⟨kcell, kcell_injective⟩

/-- The duty tokens as minted: both of a device's barrier cell, one of each cell of its families. -/
abbrev tokOf : Dev nD × (Bool ⊕ (Fin 4 × Fin 16)) → GSem nD τ sig × ℕ × Bool
  | (c, .inl b) => (kcell (c, none), 0, b)
  | (c, .inr p) => (kcell (c, some p), 0, false)
theorem tokOf_injective : Function.Injective tokOf := by
  rintro ⟨c, k⟩ ⟨c', k'⟩ h
  rcases k with b | p <;> rcases k' with b' | p'
  · have h1 := kcell_injective (congrArg Prod.fst h)
    have h2 : b = b' := congrArg (fun x : GSem nD τ sig × ℕ × Bool => x.2.2) h
    obtain ⟨rfl, -⟩ := Prod.mk.inj h1
    rw [h2]
  · exact absurd (congrArg Prod.snd (kcell_injective (congrArg Prod.fst h))) (by intro h; cases h)
  · exact absurd (congrArg Prod.snd (kcell_injective (congrArg Prod.fst h))) (by intro h; cases h)
  · have h1 := kcell_injective (congrArg Prod.fst h)
    obtain ⟨rfl, h2⟩ := Prod.mk.inj h1
    rw [Option.some.inj h2]
def ringToks : Finset (GSem nD τ sig × ℕ × Bool) := Finset.univ.map ⟨tokOf, tokOf_injective⟩

def u₀ : UU := (initOf (Pipeline.cells cfgs cellOf_inj) (Pipeline.launchToks cfgs cellOf_inj), (initOf ringCells ringToks, 1))

/-- The duty tokens of device `c`'s own cells. -/
def toks : sProp 𝕄 :=
  iprop((dutyTok ER (bar c) 0 false ∗ dutyTok ER (bar c) 0 true)
    ∗ (bigSep Finset.univ fun j => tk c 0 j) ∗ (bigSep Finset.univ fun j => tk c 1 j) ∗ (bigSep Finset.univ fun j => tk c 2 j) ∗ bigSep Finset.univ fun j => tk c 3 j)

/-- What the launch element deals device `c`. -/
def G : sProp 𝕄 :=
  iprop((bigSep Finset.univ fun k : Option (Fin 4 × Fin 16) => roundState ER (Rd m) (kcell (c, k)) 0)
    ∗ (bigSep Finset.univ fun k : Option (Fin 4 × Fin 16) => iprop(atPos ER (kcell (c, k)) 0 ∅ 0 ∗ reached ER (kcell (c, k)) 0)) ∗ toks c)

omit [FloatOps F] in
theorem toks_eq : bigSep ringToks (fun x => (dutyTok ER x.1 x.2.1 x.2.2 : sProp 𝕄)) = bigSep Finset.univ fun c : Dev nD => toks c := by
  unfold ringToks; rw [bigSep_map, bigSep_univ_prod]
  exact bigSep_congr fun c _ => by unfold toks; rw [bigSep_sum, bigSep_bool, bigSep_fam]; rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k => Φ (kcell (c, k)) := by
    unfold ringCells; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq toks_eq) $$ Htok
  unfold G; simp only [bigSep_sep']
  isplitl [Hst']; · iexact Hst'
  isplitl [Hat' Hr']
  · isplitl [Hat'] <;> iassumption
  iexact Htok'

/-- One device's cells under invariants, the local transfers' semaphores kept. -/
theorem core_alloc : iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ lds c) := by
  unfold G
  rw [ownSems0_eq, unscopedSems0_eq]
  iintro ⟨⟨Hos, Hl⟩, Hus, Hst, Hat, Htok⟩
  imod (show iprop((bigSep Finset.univ fun k => semVal (kcell (c, k)) 0) ∗ bigSep Finset.univ fun k => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hus Hos Hst] with Hinv
  · isplitl [Hus Hos]
    · rw [bigSep_opt]
      isplitl [Hus]; · iexact Hus
      iexact Hos
    iexact Hst
  imodintro
  isplitl [Hinv]; · iexact Hinv
  isplitl [Hat]; · iexact Hat
  isplitl [Htok] <;> iassumption

/-- The cells' invariants and that every cell is at round 0. -/
def records (K : Dev nD × Option (Fin 4 × Fin 16) → ℕ) : sProp 𝕄 :=
  iprop((bigSep Finset.univ fun ck : Dev nD × Option (Fin 4 × Fin 16) => cellInv ER (Rd m) (K ck) (kcell ck))
    ∗ bigSep Finset.univ fun ck : Dev nD × Option (Fin 4 × Fin 16) => reached ER (kcell ck) 0)
instance records_persistent (K : Dev nD × Option (Fin 4 × Fin 16) → ℕ) : BI.Persistent (records m K) := by unfold records; infer_instance

/-- The tokens of the duties device `c` pays. -/
def payToks : sProp 𝕄 :=
  iprop((dutyTok ER (bar (xp c)) 0 false ∗ dutyTok ER (bar (yp c)) 0 true)
    ∗ (bigSep Finset.univ fun j => tk c 0 j) ∗ (bigSep Finset.univ fun j => tk (xp c) 1 j) ∗ (bigSep Finset.univ fun j => tk c 2 j) ∗ bigSep Finset.univ fun j => tk (yp c) 3 j)
/-- What stays with device `c`: its positions, those tokens, its local transfers' semaphores. -/
def linear : sProp 𝕄 := iprop((bigSep Finset.univ fun k : Option (Fin 4 × Fin 16) => atPos ER (kcell (c, k)) 0 ∅ 0) ∗ payToks c ∗ lds c)

/-- What the global step makes for device `c`. -/
def G' : sProp 𝕄 := iprop(∃ K, records m K ∗ linear c)

abbrev xe : Dev nD ≃ Dev nD := ⟨xp, xp, xp_xp, xp_xp⟩
abbrev ye : Dev nD ≃ Dev nD := ⟨yp, yp, yp_yp, yp_yp⟩

omit [FloatOps F] in
theorem toks_around : (bigSep Finset.univ fun c : Dev nD => (toks c : sProp 𝕄)) ⊢ bigSep Finset.univ fun c : Dev nD => payToks c := by
  unfold toks payToks
  simp only [bigSep_sep']
  rw [bigSep_univ_equiv xe (fun c : Dev nD => (dutyTok ER (bar c) 0 false : sProp 𝕄)),
    bigSep_univ_equiv ye (fun c : Dev nD => (dutyTok ER (bar c) 0 true : sProp 𝕄)),
    bigSep_univ_equiv xe (fun c : Dev nD => (bigSep Finset.univ fun j => tk c 1 j : sProp 𝕄)),
    bigSep_univ_equiv ye (fun c : Dev nD => (bigSep Finset.univ fun j => tk c 3 j : sProp 𝕄))]
  exact Entails.refl _

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ lds c) : sProp 𝕄)
      ⊢ bigSep Finset.univ (G' m) := by
  rw [bigSep_sep', bigSep_sep', bigSep_sep', ← bigSep_univ_prod (fun ck : Dev nD × Option (Fin 4 × Fin 16) => iprop(∃ κ : ℕ, cellInv ER (Rd m) κ (kcell ck))),
    bigSep_congr (s := Finset.univ) (fun (c : Dev nD) _ => bigSep_sep' Finset.univ (fun k => (atPos ER (kcell (c, k)) 0 ∅ 0 : sProp 𝕄)) (fun k => reached ER (kcell (c, k)) 0)),
    bigSep_sep', ← bigSep_univ_prod (fun ck : Dev nD × Option (Fin 4 × Fin 16) => (reached ER (kcell ck) 0 : sProp 𝕄))]
  iintro ⟨HI, ⟨Hat, #HR⟩, Htok, Hl⟩
  ihave HK := (BI.bigSep_exists_pi Finset.univ (fun (ck : Dev nD × Option (Fin 4 × Fin 16)) (κ : ℕ) => (cellInv ER (Rd m) κ (kcell ck) : sProp 𝕄))) $$ HI
  icases HK with ⟨%K, #HI⟩
  ihave Htk := (toks_around (F := F)) $$ Htok
  iapply (bigSep_with_persistent (R := records m K) (Φ := linear) fun c _ => by
    unfold G'; iintro H; iexists K; iexact H)
  isplitr
  · unfold records; isplitl; · iexact HI
    iexact HR
  · unfold linear
    rw [bigSep_sep', bigSep_sep']
    isplitl [Hat]; · iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

omit [FloatOps F] in
theorem creds_ow (a : Fin 4) (f : Dev nD → Dev nD) (hf : ∀ d, f (f d) = d) : ∀ k n,
    (Pipeline.launchCred (fun d => ow a (f d) k n) c : sProp 𝕄) ⊢ dn (fun n => cr c a (fi n)) k n
  | 0, n => Entails.of_eq (Pipeline.launchCred_zero c)
  | k + 1, n => by
    rw [show (fun d => ow a (f d) (k + 1) n) = fun d => ow a (f d) k (n + 1) + tallyAt (((f d) : Thread nD τ), SemLoc.dma (fS a (fi n))) () N from rfl,
      Pipeline.launchCred_add (fun d => ow a (f d) k (n + 1)) (fun d => tallyAt (((f d) : Thread nD τ), SemLoc.dma (fS a (fi n))) () N)]
    have h1 := creds_ow a f hf k (n + 1)
    have h2 := Pipeline.launchCred_tallyAt (τ := τ) (Name := ℕ) (U := UU) (Lvl := ℕ) (Val := Elt F) (SemLoc.dma (fS a (fi n))) f f hf hf () N c
    simp only [dn]
    iintro ⟨H1, H2⟩
    isplitl [H2]
    · unfold cr; iapply h2; iexact H2
    iapply h1; iexact H1

omit [FloatOps F] in
theorem creds : (Pipeline.launchCred O₀ c : sProp 𝕄)
    ⊢ iprop(cred (tallyAt (bar c) () 2) ∗ (bigSep Finset.univ fun j => cr c 1 j) ∗ bigSep Finset.univ fun j => cr c 3 j) := by
  have e : (O₀ : Dev nD → CellTallies nD τ sig Unit) = fun d => ((ow 3 (yp d) 16 0 + ow 1 (xp d) 16 0) + tallyAt (((yp d) : Thread nD τ), SemLoc.reg barS) () 1)
      + tallyAt (((xp d) : Thread nD τ), SemLoc.reg barS) () 1 := rfl
  rw [e, Pipeline.launchCred_add (fun d => (ow 3 (yp d) 16 0 + ow 1 (xp d) 16 0) + tallyAt (((yp d) : Thread nD τ), SemLoc.reg barS) () 1)
      (fun d => tallyAt (((xp d) : Thread nD τ), SemLoc.reg barS) () 1),
    Pipeline.launchCred_add (fun d => ow 3 (yp d) 16 0 + ow 1 (xp d) 16 0) (fun d => tallyAt (((yp d) : Thread nD τ), SemLoc.reg barS) () 1),
    Pipeline.launchCred_add (fun d => ow 3 (yp d) 16 0) (fun d => ow 1 (xp d) 16 0)]
  have h1 := Pipeline.launchCred_tallyAt (τ := τ) (Name := ℕ) (U := UU) (Lvl := ℕ) (Val := Elt F) (SemLoc.reg barS) xp xp xp_xp xp_xp () 1 c
  have h2 := Pipeline.launchCred_tallyAt (τ := τ) (Name := ℕ) (U := UU) (Lvl := ℕ) (Val := Elt F) (SemLoc.reg barS) yp yp yp_yp yp_yp () 1 c
  have h3 := creds_ow (F := F) c 3 yp yp_yp 16 0
  have h4 := creds_ow (F := F) c 1 xp xp_xp 16 0
  rw [dn_all (fun j => cr c 1 j), dn_all (fun j => cr c 3 j)]
  iintro ⟨⟨⟨H3, H1⟩, HY⟩, HX⟩
  isplitl [HX HY]
  · rw [show (tallyAt (bar c) () 2 : CellTallies nD τ sig Unit) = tallyAt (bar c) () 1 + tallyAt (bar c) () 1 from by
      unfold tallyAt; rw [← tallyOn_add, ← Finsupp.single_add]]
    iapply (cred_add _ _).2
    isplitl [HX]
    · iapply h1; iexact HX
    iapply h2; iexact HY
  isplitl [H1]
  · iapply h4; iexact H1
  iapply h3; iexact H3

/-! ## The proof data -/

/-- What device `c` starts from. -/
def start : sProp 𝕄 :=
  iprop((∃ K, Gl m K ∗ linear c) ∗ (cred (tallyAt (bar c) () 2) ∗ (bigSep Finset.univ fun j => cr c 1 j) ∗ bigSep Finset.univ fun j => cr c 3 j)
    ∗ (xl c ↦{fullShare} m (xl c)) ∗ ol c ↦{fullShare} m (ol c))
def Φ₀ : sProp 𝕄 := iprop(start m c ∗ Pipeline.scopedRest cfg0.spec c)
/-- The results of the run on device `c`. -/
def done : sProp 𝕄 := iprop((xl c ↦{fullShare} m (xl c)) ∗ ∃ g, ⌜Fin_ m c g⌝ ∗ ol c ↦{fullShare} g)
def Φ₁ : sProp 𝕄 := iprop((unscopedSems0 c ∗ done m c) ∗ Pipeline.ownSems0 osem c ∗ Pipeline.scopedRest cfg0.spec c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## Into the body and out of it -/

theorem bigSep_A1 : bigSep Finset.univ (fun j => A1 m c j)
    = iprop((bigSep Finset.univ fun j => XW m fullShare.left c j) ∗ (bigSep Finset.univ fun j => tk c 0 j) ∗ bigSep Finset.univ fun j => tk (xp c) 1 j) := by
  unfold A1; rw [bigSep_sep', bigSep_sep']
omit [FloatOps F] in
theorem bigSep_C0 : (bigSep Finset.univ (fun j => C0 c j) : sProp 𝕄)
    = iprop(((bigSep Finset.univ fun j => cr c 1 j) ∗ bigSep Finset.univ fun j => at0 c 1 j) ∗ (bigSep Finset.univ fun j => iprop(∃ f, OW c c j f))
      ∗ ((bigSep Finset.univ fun j => tk c 2 j) ∗ bigSep Finset.univ fun j => tk (yp c) 3 j) ∗ bigSep Finset.univ fun j => at0 c 2 j) := by
  unfold C0; rw [bigSep_sep', bigSep_sep', bigSep_sep', bigSep_sep', bigSep_sep']

/-- What the device starts from is what its body starts from. -/
theorem pre_intro : iprop((linear c ∗ (cred (tallyAt (bar c) () 2) ∗ (bigSep Finset.univ fun j => cr c 1 j) ∗ bigSep Finset.univ fun j => cr c 3 j)
    ∗ (xl c ↦{fullShare} m (xl c)) ∗ ol c ↦{fullShare} m (ol c)) ∗ Pipeline.scopedRest cfg0.spec c ∗ Ow c (O₀ c)) ⊢ Pre m c := by
  have hx := (x_cut m c).1
  have ho := o_cut c (m (ol c))
  have hr := r_cut (F := F) c
  have hb := b_cut (F := F) c
  have hs := s_cut (F := F) c
  unfold Pre linear payToks lds XF FS
  rw [scopedRest0_eq, bigSep_opt, bigSep_fam, bigSep_A1, bigSep_C0]
  iintro ⟨⟨⟨⟨Hab, Ha0, Ha1, Ha2, Ha3⟩, ⟨⟨Htx, Hty⟩, Ht0, Ht1, Ht2, Ht3⟩, ⟨Hl0, Hl1⟩, Hs0, Hs1⟩, ⟨Hcb, Hc1, Hc3⟩, Hx, Ho⟩, ⟨Hr, Hb, Hs⟩, HO⟩
  ihave Hx' := hx $$ Hx
  icases Hx' with ⟨HxL, HxR⟩
  ihave Ho' := ho $$ Ho
  icases Ho' with ⟨Ho1, Ho2⟩
  ihave Hr' := hr $$ Hr
  ihave Hb' := hb $$ Hb
  icases Hb' with ⟨Hb0, Hb1⟩
  ihave Hs' := hs $$ Hs
  icases Hs' with ⟨Hss0, Hss1⟩
  isplitl [Hcb Hab Htx Hty Hr' Ho2 HO]
  · isplitl [Hcb]; · iexact Hcb
    isplitl [Hab]; · iexact Hab
    isplitl [Htx]; · iexact Htx
    isplitl [Hty]; · iexact Hty
    isplitl [Hr']; · unfold barX; rw [xp_xp]; iexact Hr'
    isplitl [Ho2]; · unfold barY; rw [yp_yp]; iexact Ho2
    iexact HO
  isplitl [HxL Ht0 Ht1]
  · isplitl [HxL]; · iexact HxL
    isplitl [Ht0] <;> iassumption
  isplitl [HxR]; · iexact HxR
  isplitl [Hc1 Ha1 Ho1 Ht2 Ht3 Ha2]
  · isplitl [Hc1 Ha1]
    · isplitl [Hc1]; · iexact Hc1
      iexact Ha1
    isplitl [Ho1]; · iexact Ho1
    isplitl [Ht2 Ht3]
    · isplitl [Ht2] <;> iassumption
    iexact Ha2
  isplitl [Ha0]; · iexact Ha0
  isplitl [Hc3]; · iexact Hc3
  isplitl [Ha3]; · iexact Ha3
  isplitl [Hb0 Hb1 Hl0 Hl1]
  · isplitl [Hb0 Hl0]
    · isplitl [Hb0] <;> iassumption
    isplitl [Hb1] <;> iassumption
  isplitl [Hss0 Hs0]
  · isplitl [Hss0] <;> iassumption
  isplitl [Hss1] <;> iassumption

variable {m c} {K : Dev nD × Option (Fin 4 × Fin 16) → ℕ}

/-- A family's cells close: their counters at zero are the device's again. -/
theorem close_fam (a : Fin 4) : iprop(Gl m K ∗ bigSep Finset.univ fun j => at1 c a j) ⊢ |={Set.univ}=> (bigSep Finset.univ fun j => semVal (cel c a j) 0) :=
  (bigSep_with_persistent (R := Gl m K) fun j _ => by
    unfold at1
    iintro ⟨#HG, Ha⟩
    iapply (Rounds.cell_close ER (Rd m) (Set.mem_univ (K (c, some (a, j)))) (fun h => h) (R := 0 + 1) (duties_later m (cel c a j)))
    isplitr; · iapply (Gl_inv m K (c, some (a, j))); iexact HG
    iexact Ha).trans (bigSep_fupd _ _)
theorem close_bar : iprop(Gl m K ∗ atPos ER (bar c) (0 + 1) ∅ 0) ⊢ |={Set.univ}=> semVal (bar c) 0 := by
  iintro ⟨#HG, Ha⟩
  iapply (Rounds.cell_close ER (Rd m) (Set.mem_univ (K (c, none))) (fun h => h) (R := 0 + 1) (duties_later m (bar c)))
  isplitr; · iapply (Gl_inv m K (c, none)); iexact HG
  iexact Ha

/-- What the body ends with is, the cells closed, what the device hands back. -/
theorem post_elim : iprop(Gl m K ∗ Post m c) ⊢ |={Set.univ}=> iprop(Φ₁ m c ∗ Ow c 0) := by
  have n1 : Nonempty (Buf (Elt F) (rl c)) := ⟨m _⟩
  have n2 : Nonempty (Buf (Elt F) (bl c)) := ⟨m _⟩
  have n3 : Nonempty (Buf (Elt F) (sl c)) := ⟨m _⟩
  have n4 : Nonempty (Buf (Elt F) (ol c)) := ⟨m _⟩
  have hx := (x_cut m c).2
  have ho := o_join m c
  have hr := r_join (F := F) c
  have hb := b_join (F := F) c
  have hs := s_join (F := F) c
  unfold Post Dn Gd XF FS
  simp only [bigSep_sep']
  iintro ⟨#HG, ⟨Hab, HO⟩, ⟨HxL, Ha0⟩, ⟨HxR, Hr, Ha1⟩, ⟨Ho1, Ha2⟩, ⟨Ho2, Ha3⟩, ⟨⟨Hb0, Hl0⟩, Hb1, Hl1⟩, ⟨Hss0, Hs0⟩, Hss1, Hs1⟩
  imod (close_bar (m := m) (K := K) (c := c)) $$ [Hab] with Hab
  · isplitr; · iexact HG
    iexact Hab
  imod (close_fam (m := m) (K := K) (c := c) 0) $$ [Ha0] with Ha0
  · isplitr; · iexact HG
    iexact Ha0
  imod (close_fam (m := m) (K := K) (c := c) 1) $$ [Ha1] with Ha1
  · isplitr; · iexact HG
    iexact Ha1
  imod (close_fam (m := m) (K := K) (c := c) 2) $$ [Ha2] with Ha2
  · isplitr; · iexact HG
    iexact Ha2
  imod (close_fam (m := m) (K := K) (c := c) 3) $$ [Ha3] with Ha3
  · isplitr; · iexact HG
    iexact Ha3
  imodintro
  isplitr [HO]
  · unfold Φ₁ done
    rw [unscopedSems0_eq, ownSems0_eq, scopedRest0_eq, bigSep_fam]
    unfold lds
    isplitl [Hab HxL HxR Ho1 Ho2]
    · isplitl [Hab]; · iexact Hab
      isplitl [HxL HxR]
      · iapply hx
        isplitl [HxL]; · iexact HxL
        iexact HxR
      iapply ho
      isplitl [Ho1]; · iexact Ho1
      iexact Ho2
    isplitl [Ha0 Ha1 Ha2 Ha3 Hl0 Hl1 Hs0 Hs1]
    · isplitl [Ha0 Ha1 Ha2 Ha3]
      · isplitl [Ha0]; · iexact Ha0
        isplitl [Ha1]; · iexact Ha1
        isplitl [Ha2]; · iexact Ha2
        iexact Ha3
      isplitl [Hl0 Hl1]
      · isplitl [Hl0]; · iexact Hl0
        iexact Hl1
      isplitl [Hs0]; · iexact Hs0
      iexact Hs1
    isplitl [Hr]; · iapply hr; iexact Hr
    isplitl [Hb0 Hb1]
    · iapply hb
      isplitl [Hb0]; · iexact Hb0
      iexact Hb1
    iapply hs
    isplitl [Hss0]; · iexact Hss0
    iexact Hss1
  iexact HO

variable (m c)

/-- The body on device `c`: from what it starts with and owes to the run's results with nothing owed. -/
theorem sound_body : iprop(Φ₀ m c ∗ Ow c (O₀ c)) ⊢ wp frame (wpE (defs₀ (F := F)) 𝒱₀ (c : Thread nD τ) none) Set.univ pBody (fun _ => iprop(Φ₁ m c ∗ Ow c 0)) := by
  unfold Φ₀ start pBody
  iintro ⟨⟨⟨⟨%K, #HG, HL⟩, Hc, Hx, Ho⟩, Hsc⟩, HO⟩
  have hm := tri_main (m := m) (K := K) (c := c)
  have hp := pre_intro m c
  have hq := post_elim (m := m) (c := c) (K := K)
  unfold Tri at hm
  simp only [Prog.lift, Prog.bind_op, Prog.bind_ret, wp_deviceId]
  iapply (wp_fupd _ _ _)
  ihave H := hm $$ [HL Hc Hx Ho Hsc HO]
  · isplitr; · iexact HG
    iapply hp
    isplitl [HL Hc Hx Ho]
    · isplitl [HL]; · iexact HL
      isplitl [Hc]; · iexact Hc
      isplitl [Hx] <;> iassumption
    isplitl [Hsc] <;> iassumption
  iapply (wp_wand _ _ _) $$ H
  iintro %a HP
  iapply hq
  isplitr; · iexact HG
  iexact HP

/-- The kernel has no staged arrays. -/
theorem bigSep_none (Φ : Fin cfg0.W → sProp 𝕄) : bigSep Finset.univ Φ = iprop(emp) := bigSep_empty
theorem call_eq : defs₀ (F := F) .tc cfg0.body (cfg0.bodyArgs t0_0 (cfg0.slots t0_0)) = pBody := body_eq

/-- The body's obligation on device `c`. -/
theorem body_obligation : BodyObligation (dats (F := F) m 0 c) (defs₀ (F := F)) 𝒱₀ () Set.univ := fun t => by
  obtain rfl := fin_N0 t
  have h := sound_body m c
  rw [bigSep_none, bigSep_none]
  rw [show (dats m 0 c).Φ t0_0.castSucc = Φ₀ m c from rfl, show (dats m 0 c).Φ t0_0.succ = Φ₁ m c from rfl]
  rw [call_eq]
  unfold Dat.owesAt Pipeline.owesWithin
  rw [show (dats m 0 c).owed t0_0.castSucc = O₀ c from rfl, show (dats m 0 c).owed t0_0.succ = 0 from rfl]
  iintro ⟨H0, ⟨%W, -, HO⟩, -⟩
  ihave H := h $$ [H0 HO]
  · isplitl [H0]; · iexact H0
    unfold Ow; iexists W; iexact HO
  iapply (wp_wand _ _ _) $$ H
  iintro %a ⟨H1, HO⟩
  unfold Ow
  icases HO with ⟨%W, HO⟩
  isplitl [H1]; · iexact H1
  isplitl [HO]
  · iexists W
    isplitr; · ipureintro; exact fun _ _ => Or.inl trivial
    iexact HO
  iempintro

/-! ## The run -/

theorem unscopedRestP_eq : (Pipeline.unscopedRestP Pipeline.Prefetch.none cfg0.spec c (fun b => m ((c : Thread nD τ).loc b)) : sProp 𝕄)
    = iprop((xl c ↦{fullShare} m (xl c)) ∗ ol c ↦{fullShare} m (ol c)) :=
  Pipeline.unscopedRestP_eq_of_list (cfg0.spec) c Pipeline.Prefetch.none (fun b => m ((c : Thread nD τ).loc b)) [main_arg0, main_v1] (by decide) (by decide)

theorem start_intro : iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have hc := creds (F := F) c
  rw [unscopedRestP_eq]
  unfold start G' records Gl
  iintro ⟨⟨Hx, Ho⟩, Hlev, Hcr, -, ⟨%K, ⟨HI, HR⟩, HL⟩⟩
  ihave Hc := hc $$ Hcr
  imodintro
  isplitl
  · isplitl [HI HR Hlev HL]
    · iexists K
      isplitr [HL]
      · isplitl [HI]; · iexact HI
        isplitl [HR] <;> iassumption
      iexact HL
    isplitl [Hc]; · iexact Hc
    isplitl [Hx] <;> iassumption
  · iempintro

/-- What the final memory reads on device `c`. -/
def QY (c : Dev nD) (s : MemSt nD τ sig (Elt F)) : Prop :=
  (∀ sm : SemLoc sig, sm.isScoped .tc = false → s.sem ((c.tc : Thread nD τ), sm) = 0) ∧ s.mem (xl c) = m (xl c) ∧ Fin_ m c (s.mem (ol c))

theorem read_done (s' : Phys nD τ sig (Elt F)) : iprop((unscopedSems0 c ∗ done m c) ∗ emp ∗ SI s') ⊢ |={Set.univ}=> iprop(⌜QY m c s'.mem⌝ ∗ (SI s' : sProp 𝕄)) := by
  unfold done
  iintro ⟨⟨Hu, Hx, ⟨%g, %hg, Ho⟩⟩, -, HSI⟩
  imod (Pipeline.unscopedSems0_read (X := unscopedSems0 c) (c := c) fupd_intro s') $$ [Hu HSI] with ⟨%hu, HSI⟩
  · isplitl [Hu] <;> iassumption
  icombine HSI Hx gives %hx
  icombine HSI Ho gives %ho
  imodintro
  isplitr [HSI]
  · ipureintro
    exact ⟨hu, Buf.eq_of_forall_mem_univ hx, by rw [Buf.eq_of_forall_mem_univ ho]; exact hg⟩
  iexact HSI

set_option maxRecDepth 8000 in
/-- For any float values, from any memory with zero counters: every weakly fair execution of the four kernels ends, with every device's
    block of `x` as it was, its result holding its own sums over its column half and its y partner's over the other, and every counter
    at zero. -/
theorem run_main : θ_run defs (onTc (τ := τ) (main (F := F))) (s₀ m ρ)
    (fun r => (∀ c : Dev nD, r.2.mem (xl c) = m (xl c) ∧ Fin_ m c (r.2.mem (ol c))) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m) () 0 c fun w => w.elim0)
    (G := G m) (G' := G' m) (u₀ := u₀)
    (hu₀ := by
      unfold u₀
      iintro Hu
      ihave H := (ownU_pair _ _) $$ Hu
      icases H with ⟨HP, HX⟩
      imod (fund_ring m) $$ [HX] with HG
      · iapply (show BI.own (embR (initOf ringCells ringToks, (1 : Counters))) ⊢ (BI.own (ER (initOf ringCells ringToks)) : sProp 𝕄) from Entails.refl _)
        iexact HX
      imodintro
      isplitl [HP] <;> iassumption)
    (hglob := glob m)
    (hA := fun _ w => w.elim0) (hpf := fun _ k => k.elim0)
    (X := start m) (Y := fun c => iprop(unscopedSems0 c ∗ done m c)) (Z := fun _ => iprop(emp))
    (hX := start_intro m ρ)
    (hin := fun c => by
      show _ ⊢ Φ₀ m c
      unfold Φ₀
      iintro ⟨Hs, -, Hr⟩
      isplitl [Hs] <;> iassumption)
    (hout := fun c => Entails.refl (Φ₁ m c))
    (QY := QY m)
    (hY := read_done m)
    (hQ := fun _ h hs => ⟨fun c => (h c).2.2.2, sem_eq_zero hs fun c => (h c).2.2.1⟩)

end Cert.Run

end
-- ==== Proof.Value.lean ====
/-
# What the kernel computes

At every device the result is the sum of the two halves of the whole `x`: the piece `j` over a column half is the sum of two blocks
of `x` there, one from each device of the column, in the order that the summing device sees them; the reference adds the same two
numbers to zero, and addition over the extended reals is commutative.
-/
module

public import proofs.«01_k».proof.Proof.Launch
public import proofs.«01_k».proof.Proof.Gen.ReferenceIdeal
public import Idealize.ShloMosaic.Lib.Layout
public import Idealize.ShloMosaic.Lib.ValueIdx
public import Idealize.ShloMosaic.Lib.ValueLayout
public import Idealize.ShloMosaic.Lib.Pointwise
public import Idealize.ShloMosaic.PureOps.Ideal.Laws

@[expose] public section

noncomputable section

namespace Cert.Run

open Cert.KernelIdeal Cert.KernelIdeal.Gen

open Idealize.ShloMosaic
open Idealize.ShloMosaic.TcCoe

/-! ## Where the pieces lie -/

/-- Row `r` of piece `j`, among the 4096 rows. -/
abbrev row (j : Fin 16) (r : Fin 256) : Fin 4096 := ⟨256 * j.val + r.val, by omega⟩
/-- Column `q` of device `d`'s column half, among the 4096 columns. -/
abbrev col (d : Dev nD) (q : Fin 2048) : Fin 4096 := ⟨2048 * (d.val % 2) + q.val, by omega⟩

theorem xrect_at (j : Fin 16) (r : Fin 256) (q : Fin 2048) :
    (xrect j).emb (ix3 (0 : Fin 1) r q : S1x256x2048.Idx) = (ix3 (0 : Fin 1) (row j r) q : S1x4096x2048.Idx) := by
  funext a
  refine Fin.ext ?_
  match a with
  | ⟨0, _⟩ => rfl
  | ⟨1, _⟩ => show 256 * j.val + 1 * r.val = 256 * j.val + r.val; omega
  | ⟨2, _⟩ => show 0 + 1 * q.val = q.val; omega

theorem orect_at (d : Dev nD) (j : Fin 16) (r : Fin 256) (q : Fin 2048) :
    (orect d j).emb (ix2 r q : S256x2048.Idx) = (ix2 (row j r) (col d q) : S4096x4096.Idx) := by
  have h0 : offs d j 0 = 256 * j.val := by rw [offs_eq]; rfl
  have h1 : offs d j 1 = 2048 * (d.val % 2) := by rw [offs_eq]; rfl
  funext a
  refine Fin.ext ?_
  match a with
  | ⟨0, _⟩ => show offs d j 0 + 1 * r.val = 256 * j.val + r.val; omega
  | ⟨1, _⟩ => show offs d j 1 + 1 * q.val = 2048 * (d.val % 2) + q.val; omega

section Pieces
variable {F : FTy → Type} [FloatOps F] (m : (ℓ : Loc nD τ sig) → Buf (Elt F) ℓ) (c d : Dev nD) (j : Fin 16)

omit [FloatOps F] in
/-- Piece `j` of a device's block of `x`, element by element. -/
theorem T_apply (r : Fin 256) (q : Fin 2048) : T m c j (ix2 r q : S256x2048.Idx) = m (xl c) (ix3 (0 : Fin 1) (row j r) q : S1x4096x2048.Idx) := by
  unfold T
  show m (xl c) ((xrect j).emb (Shape.reshapeEquiv _ (ix2 r q : S256x2048.Idx))) = _
  rw [← xrect_at]
  exact congrArg (fun i => m (xl c) ((xrect j).emb i)) (ValueIdx.reshapeEquiv_ix2_1ab _ r q)

omit [FloatOps F] in
/-- A piece of the result, element by element. -/
theorem orow_apply (g : Buf (Elt F) (ol c)) (r : Fin 256) (q : Fin 2048) :
    (orow d j).view.read (Elt F) g (ix2 r q : S256x2048.Idx) = g (ix2 (row j r) (col d q) : S4096x4096.Idx) := by
  rw [← orect_at]; rfl

end Pieces

/-! ## The value -/

/-- The half of the whole `x` that a device's block comes from. -/
abbrev part (c : Dev nD) : Fin 2 := ⟨c.val / 2, by have : c.val < 4 := c.isLt; omega⟩

/-- Every axis that the whole `x` is cut along has a device. -/
theorem cut_live : ∀ b : Fin 3, ∀ i ∈ (![[0], [], [1]] : Fin 3 → List Nat) b, 0 < [2, 2].getD i 0 := by decide
/-- The whole `x` is two devices' blocks deep and two wide. -/
theorem cut_tiles : Layout.TilesN ⟨3, ![1, 4096, 2048]⟩ ⟨3, ![2, 4096, 4096]⟩ (fun b => Layout.cutSize [2, 2] ((![[0], [], [1]] : Fin 3 → List Nat) b)) := by decide

/-- Every device's `x` is its block of the whole `X`. -/
def Placed (m : (ℓ : Loc nD τ sig) → Buf (Elt Ideal) ℓ) (X : (⟨3, ![2, 4096, 4096]⟩ : Shape).Idx → EReal) : Prop :=
  ∀ c : Dev nD, m (xl c) = Layout.blockN ⟨3, ![1, 4096, 2048]⟩ ⟨3, ![2, 4096, 4096]⟩ (Layout.meshBlock [2, 2] ![[0], [], [1]] c cut_live) X cut_tiles

section Value
variable (m : (ℓ : Loc nD τ sig) → Buf (Elt Ideal) ℓ) (X : (⟨3, ![2, 4096, 4096]⟩ : Shape).Idx → EReal)
  (hm : Placed m X)
include hm

/-- A device's block, element by element, as the whole `x` has it. -/
theorem x_apply (c : Dev nD) (r : Fin 4096) (q : Fin 2048) : m (xl c) (ix3 (0 : Fin 1) r q : S1x4096x2048.Idx) = X (ix3 (part c) r (col c q)) := by
  have h0 : Layout.meshLin [2, 2] c.val [0] = c.val / 2 := by revert c; decide
  have h2 : Layout.meshLin [2, 2] c.val [1] = c.val % 2 := by revert c; decide
  rw [hm c, Layout.blockN_apply]
  refine congrArg X (funext fun a => Fin.ext ?_)
  match a with
  | ⟨0, _⟩ => show Layout.meshLin [2, 2] c.val [0] * 1 + 0 = c.val / 2; omega
  | ⟨1, _⟩ => show 0 * 4096 + r.val = r.val; omega
  | ⟨2, _⟩ => show Layout.meshLin [2, 2] c.val [1] * 2048 + q.val = 2048 * (c.val % 2) + q.val; omega

/-- Sum `j` of a device, element by element: both halves of the whole `x` there, added. -/
theorem S_apply (c : Dev nD) (j : Fin 16) (r : Fin 256) (q : Fin 2048) :
    S m c j (ix2 r q : S256x2048.Idx) = X (ix3 (0 : Fin 2) (row j r) (col c q)) + X (ix3 (1 : Fin 2) (row j r) (col c q)) := by
  have e : S m c j (ix2 r q : S256x2048.Idx) = (T m c j (ix2 r q : S256x2048.Idx) : EReal) + T m (xp c) j (ix2 r q : S256x2048.Idx) := rfl
  rw [e, T_apply, T_apply, x_apply m X hm, x_apply m X hm, show col (xp c) q = col c q from Fin.ext (by show 2048 * ((xp c).val % 2) + _ = _; rw [xp_col])]
  have hc : (part c = 0 ∧ part (xp c) = 1) ∨ (part c = 1 ∧ part (xp c) = 0) := by clear e; revert c; decide
  rcases hc with ⟨h1, h2⟩ | ⟨h1, h2⟩ <;> rw [h1, h2]
  exact add_comm _ _

/-- A device's result holding its own sums over its column half and its y partner's over the other is, element by element, the sum of
    the two halves of the whole `x`. -/
theorem result_apply (c : Dev nD) (g : Buf (Elt Ideal) (ol c)) (hg : Fin_ m c g) (R Q : Fin 4096) :
    g (ix2 R Q : S4096x4096.Idx) = X (ix3 (0 : Fin 2) R Q) + X (ix3 (1 : Fin 2) R Q) := by
  have hb : ∃ b, (half c b).val % 2 = Q.val / 2048 := by
    rcases Nat.lt_or_ge Q.val 2048 with h | h
    · have : Q.val / 2048 = 0 := by omega
      rw [this]; clear * -; revert c; decide
    · have : Q.val / 2048 = 1 := by omega
      rw [this]; clear * -; revert c; decide
  obtain ⟨b, hb⟩ := hb
  have hR : row (rowOf R) ⟨R.val % 256, Nat.mod_lt _ (by decide)⟩ = R := Fin.ext (by show 256 * (R.val / 256) + R.val % 256 = R.val; omega)
  have hQ : col (half c b) ⟨Q.val % 2048, Nat.mod_lt _ (by decide)⟩ = Q := Fin.ext (by show 2048 * ((half c b).val % 2) + Q.val % 2048 = Q.val; omega)
  have h := congrFun (hg b (rowOf R)) (ix2 (⟨R.val % 256, Nat.mod_lt _ (by decide)⟩ : Fin 256) (⟨Q.val % 2048, Nat.mod_lt _ (by decide)⟩ : Fin 2048) : S256x2048.Idx)
  rw [orow_apply, S_apply m X hm, hR, hQ] at h
  exact h

end Value

/-- The reference's sum along the first axis, element by element. -/
theorem reference_apply (X : (⟨3, ![2, 4096, 4096]⟩ : Shape).Idx → EReal) (R Q : Fin 4096) :
    Host.reduceAdd (F := Ideal) (φ := .f32) X (constant Cert.ReferenceIdeal.S_ .f32 0x00000000#32)
        Cert.ReferenceIdeal.Gen.reducesTo_S2x4096x4096_S4096x4096_d0 Cert.ReferenceIdeal.Gen.h_S_ (ix2 R Q : Cert.ReferenceIdeal.S4096x4096.Idx)
      = X (ix3 (0 : Fin 2) R Q) + X (ix3 (1 : Fin 2) R Q) := by
  rw [Host.reduceAdd_apply, Ideal.hostReduceAdd_def]
  refine (Ideal.hostReduceAdd_r3_a0 _ X _ _).trans ?_
  rw [Fin.sum_univ_two]
  have h0 : (constant (F := Ideal) Cert.ReferenceIdeal.S_ .f32 0x00000000#32) (Shape.Idx.first Cert.ReferenceIdeal.Gen.h_S_) = (0 : EReal) := Ideal.ofBits_zero_f32
  rw [h0, zero_add]
  rfl

/-- Every device's result is the reference's. -/
theorem result_eq (m : (ℓ : Loc nD τ sig) → Buf (Elt Ideal) ℓ) (X : (⟨3, ![2, 4096, 4096]⟩ : Shape).Idx → EReal)
    (hm : Placed m X)
    (c : Dev nD) (g : Buf (Elt Ideal) (ol c)) (hg : Fin_ m c g) :
    g = Host.reduceAdd (F := Ideal) (φ := .f32) X (constant Cert.ReferenceIdeal.S_ .f32 0x00000000#32)
        Cert.ReferenceIdeal.Gen.reducesTo_S2x4096x4096_S4096x4096_d0 Cert.ReferenceIdeal.Gen.h_S_ :=
  funext fun i => by
    rw [show i = (ix2 (i 0) (i 1) : S4096x4096.Idx) from eq_ix2 i]
    exact (result_apply m X hm c g hg _ _).trans (reference_apply X _ _).symm

end Cert.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem

/-- The printed kernel ends, its `x` unchanged, every counter at zero: the run at the machine's floats. -/
theorem frame_kernel : Cert.quiescent_Kernel := fun m ρ _ =>
  (θ_run Cert.KernelIdeal.defs _ _).mono (fun _ h => ⟨fun c => (h.1 c).1, h.2⟩) (Cert.Run.run_main (F := Bits) m ρ)

/-- The ideal kernel ends likewise. -/
theorem frame_ideal : Cert.quiescent_KernelIdeal := fun m ρ _ =>
  (θ_run Cert.KernelIdeal.defs _ _).mono (fun _ h => ⟨fun c => (h.1 c).1, h.2⟩) (Cert.Run.run_main (F := Ideal) m ρ)

/-- The reference ends, its `x` unchanged; it has no counters. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- Every device's result is the reference's. -/
theorem value : Cert.algebraic_KernelIdeal_ReferenceIdeal := fun m ρ m' ρ' _ hm =>
  ⟨_, (θ_run Cert.KernelIdeal.defs _ _).mono (fun _ h c => ⟨Cert.Run.result_eq m _ hm c _ (h.1 c).2, (h.1 c).1⟩) (Cert.Run.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
